-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nearest [hPre_finite_nearest : Cert.Pre_finite_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nearest [hPre_finite_nearest : Cert.Pre_finite_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_nearest [hKernelIdeal : Cert.KernelIdeal.Facts] [hPre_finite_nearest : Cert.Pre_finite_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_nearest [hReferenceIdeal : Cert.ReferenceIdeal.Facts] [hPre_finite_nearest : Cert.Pre_finite_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_nearest [hKernelIdeal : Cert.KernelIdeal.Facts] [hReferenceIdeal : Cert.ReferenceIdeal.Facts] [hPre_finite_nearest : Cert.Pre_finite_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_nearest : Cert.Pre_finite_nearest.Facts),
    quiescent_Kernel (hKernel := hKernel)
    ∧ quiescent_KernelIdeal (hKernelIdeal := hKernelIdeal)
    ∧ quiescent_KernelIdeal_pre_finite_nearest (hKernelIdeal := hKernelIdeal) (hPre_finite_nearest := hPre_finite_nearest)
    ∧ quiescent_ReferenceIdeal (hReferenceIdeal := hReferenceIdeal)
    ∧ quiescent_ReferenceIdeal_pre_finite_nearest (hReferenceIdeal := hReferenceIdeal) (hPre_finite_nearest := hPre_finite_nearest)
    ∧ preserves_Kernel_KernelIdeal
    ∧ algebraic_KernelIdeal_ReferenceIdeal_pre_finite_nearest (hKernelIdeal := hKernelIdeal) (hReferenceIdeal := hReferenceIdeal) (hPre_finite_nearest := hPre_finite_nearest)
-- ==== Pre_finite_nearest.lean ====
abbrev S16x64x32x32 : Shape := ⟨4, ![16, 64, 32, 32]⟩
abbrev S64x1024 : Shape := ⟨2, ![64, 1024]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x1024 : Shape := ⟨2, ![16384, 1024]⟩
abbrev S1024 : Shape := ⟨1, ![1024]⟩
abbrev S1x1024 : Shape := ⟨2, ![1, 1024]⟩

class Facts : Prop where
  transposes_S16x64x32x32_S16x32x32x64_0_2_3_1 : S16x64x32x32.Transposes [0, 2, 3, 1] S16x32x32x64
  shapeCasts_S16x32x32x64_S16384x64 : S16x32x32x64.ShapeCasts S16384x64
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x64 : S_.BroadcastsInDim S16384x64 (![] : Fin 0 → Fin S16384x64.rank)
  bcast_S16384x1_S16384x1024_0_1 : S16384x1.BroadcastsInDim S16384x1024 (![0, 1] : Fin 2 → Fin S16384x1024.rank)
  reducesTo_S64x1024_S1024_d0 : S64x1024.ReducesTo [0] S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  bcast_S_S16x64x32x32 : S_.BroadcastsInDim S16x64x32x32 (![] : Fin 0 → Fin S16x64x32x32.rank)
  bcast_S_S64x1024 : S_.BroadcastsInDim S64x1024 (![] : Fin 0 → Fin S64x1024.rank)
  natLt_1_32 : 1 < 32
  bcast_S_S16384 : S_.BroadcastsInDim S16384 (![] : Fin 0 → Fin S16384.rank)
  dot_S16384x64_S64x1024_S16384x1024_1_0_0_1_n_n_wf : DotDims.WF S16384x64 S64x1024 S16384x1024 [1] [0] [0] [1] [] []

variable [Facts]

def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def fn_part1 {F : FTy → Type} [FloatOps F] (main_arg1 : FVec F S64x1024 .f32) (main_v18 : IVec S16384x1024 1) (main_v19 : FVec F S16x64x32x32 .f32) : IVec S16x64x32x32 1 × IVec S64x1024 1 × IVec S16384 1 :=
  let main_cst_3 : FVec F S_ .f32 := constant S_ .f32 0x7F800000#32
  let main_v20 : FVec F S16x64x32x32 .f32 := broadcastInDim S16x64x32x32 ![] bcast_S_S16x64x32x32 main_cst_3
  let main_v21 : IVec S16x64x32x32 1 := cmpf .olt main_v19 main_v20
  let main_v22 : FVec F S64x1024 .f32 := Host.absf main_arg1
  let main_cst_4 : FVec F S_ .f32 := constant S_ .f32 0x7F800000#32
  let main_v23 : FVec F S64x1024 .f32 := broadcastInDim S64x1024 ![] bcast_S_S64x1024 main_cst_4
  let main_v24 : IVec S64x1024 1 := cmpf .olt main_v22 main_v23
  let main_v25 : IVec S16384x1024 32 := (extui 32 · natLt_1_32) main_v18
  let main_c : IVec S_ 32 := constantI S_ 32 0#32
  let main_v26 : IVec S16384 32 := (fun x v => Host.reduce IntOp.addi x v reducesTo_S16384x1024_S16384_d1 h_S_) main_v25 main_c
  let main_c_5 : IVec S_ 32 := constantI S_ 32 1#32
  let main_v27 : IVec S16384 32 := broadcastInDim S16384 ![] bcast_S_S16384 main_c_5
  let main_v28 : IVec S16384 1 := cmpi .eq main_v26 main_v27
  (main_v21, main_v24, main_v28)

def fn {F : FTy → Type} [FloatOps F] (main_arg0 : FVec F S16x64x32x32 .f32) (main_arg1 : FVec F S64x1024 .f32) : IVec S16x64x32x32 1 × IVec S64x1024 1 × IVec S16384 1 :=
  let main_v0 : FVec F S16x32x32x64 .f32 := (transpose S16x32x32x64 [0, 2, 3, 1] · transposes_S16x64x32x32_S16x32x32x64_0_2_3_1) main_arg0
  let main_v1 : FVec F S16384x64 .f32 := shapeCast S16384x64 main_v0 shapeCasts_S16x32x32x64_S16384x64
  let main_v2 : FVec F S16384x64 .f32 := mulf main_v1 main_v1
  let main_cst : FVec F S_ .f32 := constant S_ .f32 0x00000000#32
  let main_v3 : FVec F S16384 .f32 := (fun x v => Host.reduceAdd x v reducesTo_S16384x64_S16384_d1 h_S_) main_v2 main_cst
  let main_v4 : FVec F S16384x1 .f32 := broadcastInDim S16384x1 ![0] bcast_S16384_S16384x1_0 main_v3
  let main_cst_0 : FVec F S_ .f32 := constant S_ .f32 0x40000000#32
  let main_v5 : FVec F S16384x64 .f32 := broadcastInDim S16384x64 ![] bcast_S_S16384x64 main_cst_0
  let main_v6 : FVec F S16384x64 .f32 := mulf main_v5 main_v1
  let main_v7 : FVec F S16384x1024 .f32 := (fun l r => Host.dotGeneral dot_S16384x64_S64x1024_S16384x1024_1_0_0_1_n_n none l r) main_v6 main_arg1
  let main_v8 : FVec F S16384x1024 .f32 := broadcastInDim S16384x1024 ![0, 1] bcast_S16384x1_S16384x1024_0_1 main_v4
  let main_v9 : FVec F S16384x1024 .f32 := subf main_v8 main_v7
  let main_v10 : FVec F S64x1024 .f32 := mulf main_arg1 main_arg1
  let main_cst_1 : FVec F S_ .f32 := constant S_ .f32 0x00000000#32
  let main_v11 : FVec F S1024 .f32 := (fun x v => Host.reduceAdd x v reducesTo_S64x1024_S1024_d0 h_S_) main_v10 main_cst_1
  let main_v12 : FVec F S1x1024 .f32 := broadcastInDim S1x1024 ![1] bcast_S1024_S1x1024_1 main_v11
  let main_v13 : FVec F S16384x1024 .f32 := broadcastInDim S16384x1024 ![0, 1] bcast_S1x1024_S16384x1024_0_1 main_v12
  let main_v14 : FVec F S16384x1024 .f32 := addf main_v9 main_v13
  let main_cst_2 : FVec F S_ .f32 := constant S_ .f32 0x7F800000#32
  let main_v15 : FVec F S16384 .f32 := (fun x v => Host.reduce FloatOps.minimumf x v reducesTo_S16384x1024_S16384_d1 h_S_) main_v14 main_cst_2
  let main_v16 : FVec F S16384x1 .f32 := broadcastInDim S16384x1 ![0] bcast_S16384_S16384x1_0 main_v15
  let main_v17 : FVec F S16384x1024 .f32 := broadcastInDim S16384x1024 ![0, 1] bcast_S16384x1_S16384x1024_0_1 main_v16
  let main_v18 : IVec S16384x1024 1 := cmpf .oeq main_v14 main_v17
  let main_v19 : FVec F S16x64x32x32 .f32 := Host.absf main_arg0
  fn_part1 (F := F) main_arg1 main_v18 main_v19
-- ==== Kernel.lean ====
abbrev S16x64x32x32 : Shape := ⟨4, ![16, 64, 32, 32]⟩
abbrev S64x1024 : Shape := ⟨2, ![64, 1024]⟩
abbrev S16x64x1024 : Shape := ⟨3, ![16, 64, 1024]⟩
abbrev S1024 : Shape := ⟨1, ![1024]⟩
abbrev S_ : Shape := ⟨0, ![]⟩
abbrev S8x1024 : Shape := ⟨2, ![8, 1024]⟩
abbrev S1 : Shape := ⟨1, ![1]⟩
abbrev S72x1024 : Shape := ⟨2, ![72, 1024]⟩
abbrev S16x1x1024 : Shape := ⟨3, ![16, 1, 1024]⟩
abbrev S1x1 : Shape := ⟨2, ![1, 1]⟩
abbrev S8x64x1024 : Shape := ⟨3, ![8, 64, 1024]⟩
abbrev S8x1x1024 : Shape := ⟨3, ![8, 1, 1024]⟩
abbrev S1024x64 : Shape := ⟨2, ![1024, 64]⟩
abbrev S1024x1 : Shape := ⟨2, ![1024, 1]⟩
abbrev S1x64x1024 : Shape := ⟨3, ![1, 64, 1024]⟩
abbrev S1x1024 : Shape := ⟨2, ![1, 1024]⟩
abbrev S1024x1024 : Shape := ⟨2, ![1024, 1024]⟩
abbrev S1x1x1024 : Shape := ⟨3, ![1, 1, 1024]⟩
abbrev S1x1x1 : Shape := ⟨3, ![1, 1, 1]⟩
abbrev S16x32x32 : Shape := ⟨3, ![16, 32, 32]⟩

abbrev nBuf : Space → Nat
  | .hbm => 47
  | .vmem => 9
  | .smem => 0
  | _ => 0

abbrev bufTy : (tb : Table) → Fin (tcTables nBuf tb) → BufTy
  | .hbm, ⟨0, _⟩ => ⟨S16x64x32x32, .f32⟩
  | .hbm, ⟨1, _⟩ => ⟨S64x1024, .f32⟩
  | .hbm, ⟨2, _⟩ => ⟨S16x64x1024, .f32⟩
  | .hbm, ⟨3, _⟩ => ⟨S1024, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S_, .f32⟩
  | .hbm, ⟨9, _⟩ => ⟨S1024, .f32⟩
  | .hbm, ⟨10, _⟩ => ⟨S8x1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .i32⟩
  | .hbm, ⟨16, _⟩ => ⟨S1, .i32⟩
  | .hbm, ⟨17, _⟩ => ⟨S8x1024, .f32⟩
  | .hbm, ⟨18, _⟩ => ⟨S_, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .i1⟩
  | .hbm, ⟨25, _⟩ => ⟨S_, .f32⟩
  | .hbm, ⟨26, _⟩ => ⟨S1024, .f32⟩
  | .hbm, ⟨27, _⟩ => ⟨S1024, .i1⟩
  | .hbm, ⟨28, _⟩ => ⟨S_, .f32⟩
  | .hbm, ⟨29, _⟩ => ⟨S_, .i1⟩
  | .hbm, ⟨30, _⟩ => ⟨S1024, .i1⟩
  | .hbm, ⟨31, _⟩ => ⟨S1024, .i1⟩
  | .hbm, ⟨32, _⟩ => ⟨S1024, .i1⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S_, .i32⟩
  | .hbm, ⟨37, _⟩ => ⟨S1, .i32⟩
  | .hbm, ⟨38, _⟩ => ⟨S8x1024, .f32⟩
  | .hbm, ⟨39, _⟩ => ⟨S72x1024, .f32⟩
  | .hbm, ⟨40, _⟩ => ⟨S72x1024, .bf16⟩
  | .hbm, ⟨41, _⟩ => ⟨S16x64x1024, .f32⟩
  | .hbm, ⟨42, _⟩ => ⟨S16x1x1024, .i32⟩
  | .hbm, ⟨43, _⟩ => ⟨S1x1, .f32⟩
  | .hbm, ⟨44, _⟩ => ⟨S16x64x32x32, .f32⟩
  | .hbm, ⟨45, _⟩ => ⟨S16x32x32, .i32⟩
  | .hbm, ⟨46, _⟩ => ⟨S_, .f32⟩
  | .local _ .vmem, ⟨0, _⟩ => ⟨S8x64x1024, .f32⟩
  | .local _ .vmem, ⟨1, _⟩ => ⟨S8x64x1024, .f32⟩
  | .local _ .vmem, ⟨2, _⟩ => ⟨S64x1024, .f32⟩
  | .local _ .vmem, ⟨3, _⟩ => ⟨S72x1024, .bf16⟩
  | .local _ .vmem, ⟨4, _⟩ => ⟨S8x64x1024, .f32⟩
  | .local _ .vmem, ⟨5, _⟩ => ⟨S8x64x1024, .f32⟩
  | .local _ .vmem, ⟨6, _⟩ => ⟨S8x1x1024, .i32⟩
  | .local _ .vmem, ⟨7, _⟩ => ⟨S8x1x1024, .i32⟩
  | .local _ .vmem, ⟨8, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_cst : Ref sig .tc := ⟨.hbm, 22, rfl⟩
abbrev main_call0_v3 : Ref sig .tc := ⟨.hbm, 23, rfl⟩
abbrev main_call0_v4 : Ref sig .tc := ⟨.hbm, 24, rfl⟩
abbrev main_call0_cst_0 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_v11 : Ref sig .tc := ⟨.hbm, 35, rfl⟩
abbrev main_c_4 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16_0 : Ref sig .tc := ⟨.hbm, 41, rfl⟩
abbrev main_v16_1 : Ref sig .tc := ⟨.hbm, 42, rfl⟩
abbrev main_v16_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S72x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16x64x32x32 : Shape := ⟨4, ![16, 64, 32, 32]⟩
abbrev S64x1024 : Shape := ⟨2, ![64, 1024]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x1024 : Shape := ⟨2, ![16384, 1024]⟩
abbrev S1024 : Shape := ⟨1, ![1024]⟩
abbrev S1x1024 : Shape := ⟨2, ![1, 1024]⟩
abbrev S16x32x32 : Shape := ⟨3, ![16, 32, 32]⟩
abbrev S1024x64 : Shape := ⟨2, ![1024, 64]⟩
abbrev S16x32x32x1 : Shape := ⟨4, ![16, 32, 32, 1]⟩
abbrev S1 : Shape := ⟨1, ![1]⟩
abbrev S1x1x1x1 : Shape := ⟨4, ![1, 1, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S64x1024, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S64x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16x32x32, .i32⟩
  | .hbm, ⟨27, _⟩ => ⟨S1024x64, .f32⟩
  | .hbm, ⟨28, _⟩ => ⟨S_, .i32⟩
  | .hbm, ⟨29, _⟩ => ⟨S16x32x32, .i32⟩
  | .hbm, ⟨30, _⟩ => ⟨S16x32x32, .i1⟩
  | .hbm, ⟨31, _⟩ => ⟨S_, .i32⟩
  | .hbm, ⟨32, _⟩ => ⟨S16x32x32, .i32⟩
  | .hbm, ⟨33, _⟩ => ⟨S16x32x32, .i32⟩
  | .hbm, ⟨34, _⟩ => ⟨S16x32x32, .i32⟩
  | .hbm, ⟨35, _⟩ => ⟨S16x32x32x1, .i32⟩
  | .hbm, ⟨36, _⟩ => ⟨S1, .i32⟩
  | .hbm, ⟨37, _⟩ => ⟨S_, .i32⟩
  | .hbm, ⟨38, _⟩ => ⟨S16x32x32x1, .i32⟩
  | .hbm, ⟨39, _⟩ => ⟨S16x32x32x1, .i1⟩
  | .hbm, ⟨40, _⟩ => ⟨S1x1x1x1, .i32⟩
  | .hbm, ⟨41, _⟩ => ⟨S16x32x32x1, .i32⟩
  | .hbm, ⟨42, _⟩ => ⟨S16x32x32x1, .i1⟩
  | .hbm, ⟨43, _⟩ => ⟨S16x32x32x1, .i1⟩
  | .hbm, ⟨44, _⟩ => ⟨S_, .i1⟩
  | .hbm, ⟨45, _⟩ => ⟨S16x32x32, .i1⟩
  | .hbm, ⟨46, _⟩ => ⟨S16x32x32x64, .f32⟩
  | .hbm, ⟨47, _⟩ => ⟨S16x32x32x64, .i1⟩
  | .hbm, ⟨48, _⟩ => ⟨S_, .f32⟩
  | .hbm, ⟨49, _⟩ => ⟨S16x32x32x64, .f32⟩
  | .hbm, ⟨50, _⟩ => ⟨S16x32x32x64, .f32⟩
  | .hbm, ⟨51, _⟩ => ⟨S16x64x32x32, .f32⟩
  | .hbm, ⟨52, _⟩ => ⟨S16x64x32x32, .f32⟩
  | .hbm, ⟨53, _⟩ => ⟨S16x64x32x32, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x64x32x32, .f32⟩
  | .hbm, ⟨59, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_2 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩

abbrev nD : Nat := 1
abbrev τ : Topo := Topo.v7x

variable {F : FTy → Type} [FloatOps F]
-- ==== Proof.RefRun.lean ====
/-
  The run of the reference: its operations as one straight line, and what each result buffer holds afterwards, as named
  array functions of the two arguments (the distances, the nearest code's number, the looked-up codes, the three results).
-/
module

public import proofs.«01_k».proof.Defs
public import proofs.«01_k».proof.Proof.Gen.ReferenceIdeal
public import Idealize.ShloMosaic.Lib.StableHlo.Run

@[expose] public section

set_option maxRecDepth 100000

noncomputable section

namespace Cert.ReferenceIdeal.Value

open Idealize.ShloMosaic Idealize.ShloMosaic.TcCoe Idealize.ShloMosaic.StableHlo Idealize.SL.Sem
open Cert.ReferenceIdeal Cert.ReferenceIdeal.Gen

variable {F : FTy → Type} [FloatOps F]

/-- The tokens in rows: image by image, row by row, column by column. -/
def tokens (x : FVec F S16x64x32x32 .f32) : FVec F S16384x64 .f32 :=
  shapeCast S16384x64 (transpose S16x32x32x64 [0, 2, 3, 1] x transposes_S16x64x32x32_S16x32x32x64_0_2_3_1)
    shapeCasts_S16x32x32x64_S16384x64

/-- Every token's squared distance to every code. -/
def dist (x : FVec F S16x64x32x32 .f32) (e : FVec F S64x1024 .f32) : FVec F S16384x1024 .f32 :=
  addf (subf (broadcastInDim S16384x1024 ![0, 1] bcast_S16384x1_S16384x1024_0_1
        (broadcastInDim S16384x1 ![0] bcast_S16384_S16384x1_0
          (Host.reduceAdd (mulf (tokens x) (tokens x)) (constant S_ .f32 0x00000000#32) reducesTo_S16384x64_S16384_d1 h_S_)))
      (Host.dotGeneral dot_S16384x64_S64x1024_S16384x1024_1_0_0_1_n_n none
        (mulf (broadcastInDim S16384x64 ![] bcast_S_S16384x64 (constant S_ .f32 0x40000000#32)) (tokens x)) e))
    (broadcastInDim S16384x1024 ![0, 1] bcast_S1x1024_S16384x1024_0_1
      (broadcastInDim S1x1024 ![1] bcast_S1024_S1x1024_1
        (Host.reduceAdd (mulf e e) (constant S_ .f32 0x00000000#32) reducesTo_S64x1024_S1024_d0 h_S_)))

/-- The larger value along each row and where it stands, folded over the row: the argmax operation's two results. -/
def foldMax (x : FVec F S16384x1024 .f32) (y : IVec S16384x1024 32) (u : FVec F S_ .f32) (v : IVec S_ 32) : FVec F S16384 .f32 :=
  fun j => (Host.argReduce reducer_argmax_f32_i32 x y u v reducesTo_S16384x1024_S16384_d1 h_S_ j).1
def foldArg (x : FVec F S16384x1024 .f32) (y : IVec S16384x1024 32) (u : FVec F S_ .f32) (v : IVec S_ 32) : IVec S16384 32 :=
  fun j => (Host.argReduce reducer_argmax_f32_i32 x y u v reducesTo_S16384x1024_S16384_d1 h_S_ j).2

/-- The position of the largest negated distance of each token. -/
def argmax (d : FVec F S16384x1024 .f32) : IVec S16384 32 :=
  foldArg (Host.negf d) (iotaInDim S16384x1024 32 1) (constant S_ .f32 0xFF800000#32) (constantI S_ 32 0#32)

/-- The code numbers with negative ones counted from the end, as start indices of the lookup. -/
def wrap (i : IVec S16x32x32 32) : IVec S16x32x32x1 32 :=
  broadcastInDim S16x32x32x1 ![0, 1, 2] bcast_S16x32x32_S16x32x32x1_0_1_2
    (select (cmpi .slt i (broadcastInDim S16x32x32 ![] bcast_S_S16x32x32 (constantI S_ 32 0#32)))
      (addi i (broadcastInDim S16x32x32 ![] bcast_S_S16x32x32 (constantI S_ 32 1024#32))) i)

/-- Whether each start index names a code. -/
def inRange (w : IVec S16x32x32x1 32) : IVec S16x32x32 1 :=
  Host.reduce IntOp.andi
    (andi (cmpi .sge w (broadcastInDim S16x32x32x1 ![] bcast_S_S16x32x32x1 (constantI S_ 32 0#32)))
      (cmpi .sle w (broadcastInDim S16x32x32x1 ![0, 1, 2, 3] bcast_S1x1x1x1_S16x32x32x1_0_1_2_3
        (broadcastInDim S1x1x1x1 ![3] bcast_S1_S1x1x1x1_3 (constantI S1 32 1023#32)))))
    (constantI S_ 1 1#1) reducesTo_S16x32x32x1_S16x32x32_d3 h_S_

/-- The lookup: each token's code by number, not-a-number where the number names none. -/
def take (t : FVec F S1024x64 .f32) (i : IVec S16x32x32 32) : FVec F S16x32x32x64 .f32 :=
  select (broadcastInDim S16x32x32x64 ![0, 1, 2] bcast_S16x32x32_S16x32x32x64_0_1_2 (inRange (wrap i)))
    (Host.gather gather_S1024x64_S16x32x32x1_S16x32x32x64_3_0_n_n_0_3_164 t (wrap i))
    (broadcastInDim S16x32x32x64 ![] bcast_S_S16x32x32x64 (constant S_ .f32 0x7FC00000#32))

/-- The code numbers by image, row and column. -/
def numbers (d : FVec F S16384x1024 .f32) : IVec S16x32x32 32 :=
  shapeCast S16x32x32 (argmax d) shapeCasts_S16384_S16x32x32

/-- The third result: each token's code number, by image, row and column. -/
def outI (x : FVec F S16x64x32x32 .f32) (e : FVec F S64x1024 .f32) : IVec S16x32x32 32 :=
  numbers (dist x e)

/-- The codes the numbers name, channels second. -/
def lookup (e : FVec F S64x1024 .f32) (i : IVec S16x32x32 32) : FVec F S16x64x32x32 .f32 :=
  transpose S16x64x32x32 [0, 3, 1, 2] (take (transpose S1024x64 [1, 0] e transposes_S64x1024_S1024x64_1_0) i)
    transposes_S16x32x32x64_S16x64x32x32_0_3_1_2

/-- An argument plus the difference of the looked-up codes from it. -/
def stq (x q : FVec F S16x64x32x32 .f32) : FVec F S16x64x32x32 .f32 := addf x (subf q x)

/-- The mean squared difference. -/
def msd (x q : FVec F S16x64x32x32 .f32) : FVec F S_ .f32 :=
  Host.divf (Host.reduceAdd (mulf (subf q x) (subf q x)) (constant S_ .f32 0x00000000#32)
    reducesTo_S16x64x32x32_S_d0_1_2_3 h_S_) (constant S_ .f32 0x49800000#32)

/-- The first result. -/
def outQ (x : FVec F S16x64x32x32 .f32) (e : FVec F S64x1024 .f32) : FVec F S16x64x32x32 .f32 :=
  stq x (lookup e (outI x e))

/-- The second result. -/
def outD (x : FVec F S16x64x32x32 .f32) (e : FVec F S64x1024 .f32) : FVec F S_ .f32 :=
  msd x (lookup e (outI x e))

/-- The operations up to the distances. -/
abbrev opsDist : List (HloOp τ sig (Elt F)) :=
  [ unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
    reshape main_v0 main_v1 (rfl : (.f32 : EltTy) = .f32) shapeCasts_S16x32x32x64_S16384x64,
    binary main_v1 main_v1 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    nullary main_cst_0 (constant S_ .f32 0x40000000#32),
    unary main_cst_0 main_v5 (broadcastInDim S16384x64 ![] bcast_S_S16384x64 : (⟨S_, .f32⟩ : BufTy).Contents (Elt F) → (⟨S16384x64, .f32⟩ : BufTy).Contents (Elt F)),
    binary main_v5 main_v1 main_v6 (mulf : (⟨S16384x64, .f32⟩ : BufTy).Contents (Elt F) → (⟨S16384x64, .f32⟩ : BufTy).Contents (Elt F) → (⟨S16384x64, .f32⟩ : BufTy).Contents (Elt F)),
    binary main_v6 main_arg1 main_v7 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    unary main_v4 main_v8 (broadcastInDim S16384x1024 ![0, 1] bcast_S16384x1_S16384x1024_0_1 : (⟨S16384x1, .f32⟩ : BufTy).Contents (Elt F) → (⟨S16384x1024, .f32⟩ : BufTy).Contents (Elt F)),
    binary main_v8 main_v7 main_v9 (subf : (⟨S16384x1024, .f32⟩ : BufTy).Contents (Elt F) → (⟨S16384x1024, .f32⟩ : BufTy).Contents (Elt F) → (⟨S16384x1024, .f32⟩ : BufTy).Contents (Elt F)),
    binary main_arg1 main_arg1 main_v10 (mulf : (⟨S64x1024, .f32⟩ : BufTy).Contents (Elt F) → (⟨S64x1024, .f32⟩ : BufTy).Contents (Elt F) → (⟨S64x1024, .f32⟩ : BufTy).Contents (Elt F)),
    nullary main_cst_1 (constant S_ .f32 0x00000000#32),
    binary main_v10 main_cst_1 main_v11 ((fun x v => Host.reduceAdd x v reducesTo_S64x1024_S1024_d0 h_S_) : (⟨S64x1024, .f32⟩ : BufTy).Contents (Elt F) → (⟨S_, .f32⟩ : BufTy).Contents (Elt F) → (⟨S1024, .f32⟩ : BufTy).Contents (Elt F)),
    unary main_v11 main_v12 (broadcastInDim S1x1024 ![1] bcast_S1024_S1x1024_1 : (⟨S1024, .f32⟩ : BufTy).Contents (Elt F) → (⟨S1x1024, .f32⟩ : BufTy).Contents (Elt F)),
    unary main_v12 main_v13 (broadcastInDim S16384x1024 ![0, 1] bcast_S1x1024_S16384x1024_0_1 : (⟨S1x1024, .f32⟩ : BufTy).Contents (Elt F) → (⟨S16384x1024, .f32⟩ : BufTy).Contents (Elt F)),
    binary main_v9 main_v13 main_v14 (addf : (⟨S16384x1024, .f32⟩ : BufTy).Contents (Elt F) → (⟨S16384x1024, .f32⟩ : BufTy).Contents (Elt F) → (⟨S16384x1024, .f32⟩ : BufTy).Contents (Elt F)) ]

/-- From the distances to the code numbers. -/
abbrev opsIdx : List (HloOp τ sig (Elt F)) :=
  [ unary main_v14 main_v15 (Host.negf : (⟨S16384x1024, .f32⟩ : BufTy).Contents (Elt F) → (⟨S16384x1024, .f32⟩ : BufTy).Contents (Elt F)),
    nullary main_call0_v0 ((iotaInDim S16384x1024 32 1) : (⟨S16384x1024, .i32⟩ : BufTy).Contents (Elt F)),
    nullary main_call0_cst ((constant S_ .f32 0xFF800000#32) : (⟨S_, .f32⟩ : BufTy).Contents (Elt F)),
    nullary main_call0_c ((constantI S_ 32 0#32) : (⟨S_, .i32⟩ : BufTy).Contents (Elt F)),
    quaternary main_v15 main_call0_v0 main_call0_cst main_call0_c main_call0_v1_0 (foldMax : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .f32⟩ : BufTy).Contents (Elt F)),
    quaternary main_v15 main_call0_v0 main_call0_cst main_call0_c main_v16 (foldArg : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .i32⟩ : BufTy).Contents (Elt F)),
    reshape main_v16 main_v17 (rfl : (.i32 : EltTy) = .i32) shapeCasts_S16384_S16x32x32 ]

/-- From the code numbers to the other two results. -/
abbrev opsTake : List (HloOp τ sig (Elt F)) :=
  [ unary main_arg1 main_v18 ((transpose S1024x64 [1, 0] · transposes_S64x1024_S1024x64_1_0) : (⟨S64x1024, .f32⟩ : BufTy).Contents (Elt F) → (⟨S1024x64, .f32⟩ : BufTy).Contents (Elt F)),
    nullary main_call1_c ((constantI S_ 32 0#32) : (⟨S_, .i32⟩ : BufTy).Contents (Elt F)),
    unary main_call1_c main_call1_v0 ((broadcastInDim S16x32x32 ![] bcast_S_S16x32x32) : (⟨S_, .i32⟩ : BufTy).Contents (Elt F) → (⟨S16x32x32, .i32⟩ : BufTy).Contents (Elt F)),
    binary main_v17 main_call1_v0 main_call1_v1 ((cmpi .slt) : (⟨S16x32x32, .i32⟩ : BufTy).Contents (Elt F) → (⟨S16x32x32, .i32⟩ : BufTy).Contents (Elt F) → (⟨S16x32x32, .i1⟩ : BufTy).Contents (Elt F)),
    nullary main_call1_c_0 ((constantI S_ 32 1024#32) : (⟨S_, .i32⟩ : BufTy).Contents (Elt F)),
    unary main_call1_c_0 main_call1_v2 ((broadcastInDim S16x32x32 ![] bcast_S_S16x32x32) : (⟨S_, .i32⟩ : BufTy).Contents (Elt F) → (⟨S16x32x32, .i32⟩ : BufTy).Contents (Elt F)),
    binary main_v17 main_call1_v2 main_call1_v3 (addi : (⟨S16x32x32, .i32⟩ : BufTy).Contents (Elt F) → (⟨S16x32x32, .i32⟩ : BufTy).Contents (Elt F) → (⟨S16x32x32, .i32⟩ : BufTy).Contents (Elt F)),
    ternary main_call1_v1 main_call1_v3 main_v17 main_call1_v4 (select : (⟨S16x32x32, .i1⟩ : BufTy).Contents (Elt F) → (⟨S16x32x32, .i32⟩ : BufTy).Contents (Elt F) → (⟨S16x32x32, .i32⟩ : BufTy).Contents (Elt F) → (⟨S16x32x32, .i32⟩ : BufTy).Contents (Elt F)),
    unary main_call1_v4 main_call1_v5 ((broadcastInDim S16x32x32x1 ![0, 1, 2] bcast_S16x32x32_S16x32x32x1_0_1_2) : (⟨S16x32x32, .i32⟩ : BufTy).Contents (Elt F) → (⟨S16x32x32x1, .i32⟩ : BufTy).Contents (Elt F)),
    nullary main_call1_c_1 ((constantI S1 32 1023#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S16x32x32x1 ![] bcast_S_S16x32x32x1) : (⟨S_, .i32⟩ : BufTy).Contents (Elt F) → (⟨S16x32x32x1, .i32⟩ : BufTy).Contents (Elt F)),
    binary main_call1_v5 main_call1_v6 main_call1_v7 ((cmpi .sge) : (⟨S16x32x32x1, .i32⟩ : BufTy).Contents (Elt F) → (⟨S16x32x32x1, .i32⟩ : BufTy).Contents (Elt F) → (⟨S16x32x32x1, .i1⟩ : BufTy).Contents (Elt F)),
    unary main_call1_c_1 main_call1_v8 ((broadcastInDim S1x1x1x1 ![3] bcast_S1_S1x1x1x1_3) : (⟨S1, .i32⟩ : BufTy).Contents (Elt F) → (⟨S1x1x1x1, .i32⟩ : BufTy).Contents (Elt F)),
    unary main_call1_v8 main_call1_v9 ((broadcastInDim S16x32x32x1 ![0, 1, 2, 3] bcast_S1x1x1x1_S16x32x32x1_0_1_2_3) : (⟨S1x1x1x1, .i32⟩ : BufTy).Contents (Elt F) → (⟨S16x32x32x1, .i32⟩ : BufTy).Contents (Elt F)),
    binary main_call1_v5 main_call1_v9 main_call1_v10 ((cmpi .sle) : (⟨S16x32x32x1, .i32⟩ : BufTy).Contents (Elt F) → (⟨S16x32x32x1, .i32⟩ : BufTy).Contents (Elt F) → (⟨S16x32x32x1, .i1⟩ : BufTy).Contents (Elt F)),
    binary main_call1_v7 main_call1_v10 main_call1_v11 (andi : (⟨S16x32x32x1, .i1⟩ : BufTy).Contents (Elt F) → (⟨S16x32x32x1, .i1⟩ : BufTy).Contents (Elt F) → (⟨S16x32x32x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S16x32x32x1_S16x32x32_d3 h_S_) : (⟨S16x32x32x1, .i1⟩ : BufTy).Contents (Elt F) → (⟨S_, .i1⟩ : BufTy).Contents (Elt F) → (⟨S16x32x32, .i1⟩ : BufTy).Contents (Elt F)),
    binary main_v18 main_call1_v5 main_call1_v13 ((fun x i => Host.gather gather_S1024x64_S16x32x32x1_S16x32x32x64_3_0_n_n_0_3_164 x i) : (⟨S1024x64, .f32⟩ : BufTy).Contents (Elt F) → (⟨S16x32x32x1, .i32⟩ : BufTy).Contents (Elt F) → (⟨S16x32x32x64, .f32⟩ : BufTy).Contents (Elt F)),
    unary main_call1_v12 main_call1_v14 ((broadcastInDim S16x32x32x64 ![0, 1, 2] bcast_S16x32x32_S16x32x32x64_0_1_2) : (⟨S16x32x32, .i1⟩ : BufTy).Contents (Elt F) → (⟨S16x32x32x64, .i1⟩ : BufTy).Contents (Elt F)),
    nullary main_call1_cst ((constant S_ .f32 0x7FC00000#32) : (⟨S_, .f32⟩ : BufTy).Contents (Elt F)),
    unary main_call1_cst main_call1_v15 ((broadcastInDim S16x32x32x64 ![] bcast_S_S16x32x32x64) : (⟨S_, .f32⟩ : BufTy).Contents (Elt F) → (⟨S16x32x32x64, .f32⟩ : BufTy).Contents (Elt F)),
    ternary main_call1_v14 main_call1_v13 main_call1_v15 main_v19 (select : (⟨S16x32x32x64, .i1⟩ : BufTy).Contents (Elt F) → (⟨S16x32x32x64, .f32⟩ : BufTy).Contents (Elt F) → (⟨S16x32x32x64, .f32⟩ : BufTy).Contents (Elt F) → (⟨S16x32x32x64, .f32⟩ : BufTy).Contents (Elt F)),
    unary main_v19 main_v20 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F)),
    binary main_v20 main_arg0 main_v21 (subf : (⟨S16x64x32x32, .f32⟩ : BufTy).Contents (Elt F) → (⟨S16x64x32x32, .f32⟩ : BufTy).Contents (Elt F) → (⟨S16x64x32x32, .f32⟩ : BufTy).Contents (Elt F)),
    binary main_v21 main_v21 main_v22 (mulf : (⟨S16x64x32x32, .f32⟩ : BufTy).Contents (Elt F) → (⟨S16x64x32x32, .f32⟩ : BufTy).Contents (Elt F) → (⟨S16x64x32x32, .f32⟩ : BufTy).Contents (Elt F)),
    nullary main_cst_2 (constant S_ .f32 0x00000000#32),
    binary main_v22 main_cst_2 main_v23 ((fun x v => Host.reduceAdd x v reducesTo_S16x64x32x32_S_d0_1_2_3 h_S_) : (⟨S16x64x32x32, .f32⟩ : BufTy).Contents (Elt F) → (⟨S_, .f32⟩ : BufTy).Contents (Elt F) → (⟨S_, .f32⟩ : BufTy).Contents (Elt F)),
    nullary main_cst_3 (constant S_ .f32 0x49800000#32),
    binary main_v23 main_cst_3 main_v24 (Host.divf : (⟨S_, .f32⟩ : BufTy).Contents (Elt F) → (⟨S_, .f32⟩ : BufTy).Contents (Elt F) → (⟨S_, .f32⟩ : BufTy).Contents (Elt F)),
    binary main_v20 main_arg0 main_v25 (subf : (⟨S16x64x32x32, .f32⟩ : BufTy).Contents (Elt F) → (⟨S16x64x32x32, .f32⟩ : BufTy).Contents (Elt F) → (⟨S16x64x32x32, .f32⟩ : BufTy).Contents (Elt F)),
    binary main_arg0 main_v25 main_v26 (addf : (⟨S16x64x32x32, .f32⟩ : BufTy).Contents (Elt F) → (⟨S16x64x32x32, .f32⟩ : BufTy).Contents (Elt F) → (⟨S16x64x32x32, .f32⟩ : BufTy).Contents (Elt F)) ]

/-- The operations of @main in order, those of the functions it calls in their places. -/
abbrev ops : List (HloOp τ sig (Elt F)) := opsDist ++ (opsIdx ++ opsTake)

theorem main_eq (c : Dev nD) : main (F := F) c = seq ops := (rfl)

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., binary_bufs_sub .., unary_bufs_sub .., binary_bufs_sub .., binary_bufs_sub .., nullary_bufs_sub .., binary_bufs_sub .., unary_bufs_sub .., unary_bufs_sub .., binary_bufs_sub .., unary_bufs_sub .., nullary_bufs_sub .., nullary_bufs_sub .., nullary_bufs_sub .., quaternary_bufs_sub .., quaternary_bufs_sub .., reshape_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., binary_bufs_sub .., nullary_bufs_sub .., binary_bufs_sub .., nullary_bufs_sub .., binary_bufs_sub .., binary_bufs_sub .., binary_bufs_sub ..⟩

/-- Two stretches in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

section Results

variable (V : Valuation τ sig (Elt F))

theorem dist_eq : after opsDist V (main_v14 : DevRef τ sig)
    = dist (V (main_arg0 : DevRef τ sig)) (V (main_arg1 : DevRef τ sig)) := by
  after_results_simp
  unfold dist tokens
  rfl
theorem dist_arg0 : after opsDist V (main_arg0 : DevRef τ sig) = V (main_arg0 : DevRef τ sig) := by after_results_simp
theorem dist_arg1 : after opsDist V (main_arg1 : DevRef τ sig) = V (main_arg1 : DevRef τ sig) := by after_results_simp

/-- The first four of the argmax's operations write its four operands. -/
theorem idx_pre : after (opsIdx.take 4) V (main_v15 : DevRef τ sig) = Host.negf (V (main_v14 : DevRef τ sig)) := by
  simp only [opsIdx, List.take]; after_results_simp
theorem idx_pre0 : after (opsIdx.take 4) V (main_call0_v0 : DevRef τ sig) = iotaInDim S16384x1024 32 1 := by
  simp only [opsIdx, List.take]; after_results_simp
theorem idx_pre1 : after (opsIdx.take 4) V (main_call0_cst : DevRef τ sig) = constant S_ .f32 0xFF800000#32 := by
  simp only [opsIdx, List.take]; after_results_simp
theorem idx_pre2 : after (opsIdx.take 4) V (main_call0_c : DevRef τ sig) = constantI S_ 32 0#32 := by
  simp only [opsIdx, List.take]; after_results_simp
/-- The last three pick the position out and give it the images' shape. -/
theorem idx_post : after (opsIdx.drop 4) V (main_v17 : DevRef τ sig)
    = shapeCast S16x32x32 (foldArg (V (main_v15 : DevRef τ sig)) (V (main_call0_v0 : DevRef τ sig))
        (V (main_call0_cst : DevRef τ sig)) (V (main_call0_c : DevRef τ sig))) shapeCasts_S16384_S16x32x32 := by
  simp only [opsIdx, List.drop]
  rw [after_cons, after_cons, after_cons, after_nil, reshape_result]
  refine congrArg (fun z : IVec S16384 32 => shapeCast S16x32x32 z shapeCasts_S16384_S16x32x32) ?_
  rw [quaternary_result, quaternary_result_ne (h := by decide), quaternary_result_ne (h := by decide),
    quaternary_result_ne (h := by decide), quaternary_result_ne (h := by decide)]
theorem idx_eq : after opsIdx V (main_v17 : DevRef τ sig) = numbers (V (main_v14 : DevRef τ sig)) := by
  have h : (opsIdx : List (HloOp τ sig (Elt F))) = opsIdx.take 4 ++ opsIdx.drop 4 := (List.take_append_drop 4 _).symm
  rw [h, after_append, idx_post, idx_pre, idx_pre0, idx_pre1, idx_pre2]
  rfl
theorem idx_arg0 : after opsIdx V (main_arg0 : DevRef τ sig) = V (main_arg0 : DevRef τ sig) := by after_results_simp
theorem idx_arg1 : after opsIdx V (main_arg1 : DevRef τ sig) = V (main_arg1 : DevRef τ sig) := by after_results_simp

theorem take_arg0 : after opsTake V (main_arg0 : DevRef τ sig) = V (main_arg0 : DevRef τ sig) := by after_results_simp
theorem take_arg1 : after opsTake V (main_arg1 : DevRef τ sig) = V (main_arg1 : DevRef τ sig) := by after_results_simp
theorem take_v17 : after opsTake V (main_v17 : DevRef τ sig) = V (main_v17 : DevRef τ sig) := by after_results_simp
theorem take_v26 : after opsTake V (main_v26 : DevRef τ sig)
    = stq (V (main_arg0 : DevRef τ sig)) (lookup (V (main_arg1 : DevRef τ sig)) (V (main_v17 : DevRef τ sig))) := by
  after_results_simp
  unfold stq lookup take inRange wrap
  rfl
theorem take_v24 : after opsTake V (main_v24 : DevRef τ sig)
    = msd (V (main_arg0 : DevRef τ sig)) (lookup (V (main_arg1 : DevRef τ sig)) (V (main_v17 : DevRef τ sig))) := by
  after_results_simp
  unfold msd lookup take inRange wrap
  rfl

theorem arg0_eq : after ops V (main_arg0 : DevRef τ sig) = V (main_arg0 : DevRef τ sig) := by
  rw [after_append, after_append, take_arg0, idx_arg0, dist_arg0]
theorem arg1_eq : after ops V (main_arg1 : DevRef τ sig) = V (main_arg1 : DevRef τ sig) := by
  rw [after_append, after_append, take_arg1, idx_arg1, dist_arg1]
theorem outI_eq : after ops V (main_v17 : DevRef τ sig)
    = outI (V (main_arg0 : DevRef τ sig)) (V (main_arg1 : DevRef τ sig)) := by
  rw [after_append, after_append, take_v17, idx_eq, dist_eq, outI]
theorem outQ_eq : after ops V (main_v26 : DevRef τ sig)
    = outQ (V (main_arg0 : DevRef τ sig)) (V (main_arg1 : DevRef τ sig)) := by
  rw [after_append, after_append, take_v26, idx_eq, dist_eq, idx_arg0, idx_arg1, dist_arg0, dist_arg1, outQ, outI]
theorem outD_eq : after ops V (main_v24 : DevRef τ sig)
    = outD (V (main_arg0 : DevRef τ sig)) (V (main_arg1 : DevRef τ sig)) := by
  rw [after_append, after_append, take_v24, idx_eq, dist_eq, idx_arg0, idx_arg1, dist_arg0, dist_arg1, outD, outI]

end Results

/-- From any memory with zero counters every weakly fair run of the reference ends, its three result buffers at the
    functions above of the arguments, the argument buffers as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v26) = outQ (m ((c.tc : Thread nD τ).loc main_arg0)) (m ((c.tc : Thread nD τ).loc main_arg1))
      ∧ r.2.mem ((c.tc : Thread nD τ).loc main_v24) = outD (m ((c.tc : Thread nD τ).loc main_arg0)) (m ((c.tc : Thread nD τ).loc main_arg1))
      ∧ r.2.mem ((c.tc : Thread nD τ).loc main_v17) = outI (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨⟨(h c main_v26).trans (outQ_eq _), (h c main_v24).trans (outD_eq _), (h c main_v17).trans (outI_eq _)⟩,
        (h c main_arg0).trans (arg0_eq _), (h c main_arg1).trans (arg1_eq _)⟩)
    (run_seq scopedRefs_eq scopedSems_eq defs main (fun _ => ops) main_eq (fun _ => ops_sub) m ρ)

end Cert.ReferenceIdeal.Value

end
-- ==== Proof.Spec.lean ====
/- The mathematics both sides compute: a token's squared distance to a code, and the one code nearest to it. -/
module

public import Mathlib.Data.Real.Basic
public import Mathlib.Algebra.BigOperators.Ring.Finset
public import Mathlib.Data.EReal.Basic

@[expose] public section

namespace Cert.Spec

open scoped BigOperators

/-- The codes' rows are the first of the kernel's longer table. -/
theorem rows_le : 64 ≤ 72 := by decide

/-- The squared distance of token `x` to code `k`, multiplied out. -/
noncomputable def dist (x : Fin 64 → ℝ) (E : Fin 64 → Fin 1024 → ℝ) (k : Fin 1024) : ℝ :=
  (∑ d, x d * x d) - (∑ d, 2 * x d * E d k) + ∑ d, E d k * E d k

/-- Code `k` is nearer to the token than every other code. -/
def Nearest (x : Fin 64 → ℝ) (E : Fin 64 → Fin 1024 → ℝ) (k : Fin 1024) : Prop :=
  ∀ k', k' ≠ k → dist x E k < dist x E k'

/-- The same distance with the product's factor −2 on the code. -/
theorem dist_eq (x : Fin 64 → ℝ) (E : Fin 64 → Fin 1024 → ℝ) (k : Fin 1024) :
    (∑ d, x d * x d) + (∑ d, E d k * (-2) * x d) + ∑ d, E d k * E d k = dist x E k := by
  unfold dist
  rw [sub_eq_add_neg, ← Finset.sum_neg_distrib]
  refine congrArg (fun z => (∑ d, x d * x d) + z + ∑ d, E d k * E d k) (Finset.sum_congr rfl fun d _ => ?_)
  ring

/-- The real numbers' sum, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

end Cert.Spec
-- ==== Proof.Places.lean ====
/- Where a token stands: its pixel's number within an image, and its row among all the tokens. -/
module

public import Mathlib.Tactic.Ring
public import Mathlib.Data.Fin.Basic

@[expose] public section

namespace Cert.Spec

/-- The number of pixel `(h, w)` within its image. -/
abbrev pix (h w : Fin 32) : Fin 1024 := ⟨h.val * 32 + w.val, by have := h.isLt; have := w.isLt; omega⟩

/-- The number of image `b`'s pixel `p` among all the tokens. -/
abbrev tok (b : Fin 16) (p : Fin 1024) : Fin 16384 := ⟨b.val * 1024 + p.val, by have := b.isLt; have := p.isLt; omega⟩

/-- A pixel's row and column. -/
abbrev rowOf (p : Fin 1024) : Fin 32 := ⟨p.val / 32, by have := p.isLt; omega⟩
abbrev colOf (p : Fin 1024) : Fin 32 := ⟨p.val % 32, Nat.mod_lt _ (by decide)⟩

theorem pix_of (p : Fin 1024) : pix (rowOf p) (colOf p) = p := Fin.ext (by show p.val / 32 * 32 + p.val % 32 = p.val; omega)
theorem rowOf_pix (h w : Fin 32) : rowOf (pix h w) = h := Fin.ext (by show (h.val * 32 + w.val) / 32 = h.val; have := w.isLt; omega)
theorem colOf_pix (h w : Fin 32) : colOf (pix h w) = w := Fin.ext (by show (h.val * 32 + w.val) % 32 = w.val; have := w.isLt; omega)

end Cert.Spec
-- ==== Proof.RefDist.lean ====
/- The reference's distances at the exact values: each entry is the squared distance of its token to its code. -/
module

public import proofs.«01_k».proof.Proof.RefRun
public import proofs.«01_k».proof.Proof.Spec
public import proofs.«01_k».proof.Proof.Places
public import Idealize.ShloMosaic.Lib.ValueIdx
public import Idealize.ShloMosaic.Lib.MatmulPlain
public import Idealize.ShloMosaic.Lib.KernelVsHost
public import Idealize.ShloMosaic.Lib.Pipeline.Value
public import Idealize.ShloMosaic.PureOps.Ideal.Laws

@[expose] public section

set_option maxRecDepth 65536

noncomputable section

namespace Cert.ReferenceIdeal.Value

open Idealize.ShloMosaic Idealize.ShloMosaic.ValueIdx Cert.ReferenceIdeal Cert.ReferenceIdeal.Gen Cert.Spec
open scoped BigOperators

/-- A token's row holds its pixel's channels. -/
theorem tokens_apply (x : FVec Ideal S16x64x32x32 .f32) (b : Fin 16) (h w : Fin 32) (d : Fin 64) :
    tokens x (ix2 (tok b (pix h w)) d) = x (ix4 b d h w) := by
  unfold tokens
  refine (shapeCast_apply (s := S16x32x32x64) (t := S16384x64) _ _ (ix2 (tok b (pix h w)) d) (ix4 b h w d) ?_).trans ?_
  · rw [Shape.rowMajor_val_four, Shape.rowMajor_val_two]
    show ((b.val * 32 + h.val) * 32 + w.val) * 64 + d.val = (b.val * 1024 + (h.val * 32 + w.val)) * 64 + d.val
    ring
  · exact transpose_apply _ _ _ _ _ (fun a => match a with | ⟨0, _⟩ => rfl | ⟨1, _⟩ => rfl | ⟨2, _⟩ => rfl | ⟨3, _⟩ => rfl)

theorem zero32 : (constant (F := Ideal) S_ .f32 0x00000000#32) (Shape.Idx.first h_S_) = (0 : EReal) := by
  show Ideal.ofBits .f32 0x00000000#32 = 0
  simp

theorem two32 : Ideal.ofBits .f32 0x40000000#32 = ((2 : ℝ) : EReal) := by
  simp [Ideal.ofBits, Ideal.ieee, -EReal.coe_mul]; norm_num

section
variable (x : FVec Ideal S16x64x32x32 .f32) (e : FVec Ideal S64x1024 .f32) (T : Fin 64 → ℝ) (E : Fin 64 → Fin 1024 → ℝ)
  (n : Fin 16384) (hT : ∀ d, tokens x (ix2 n d) = ((T d : ℝ) : EReal)) (hE : ∀ d k, e (ix2 d k) = ((E d k : ℝ) : EReal))

include hT in
theorem norms_apply : Host.reduceAdd (mulf (tokens x) (tokens x)) (constant S_ .f32 0x00000000#32) reducesTo_S16384x64_S16384_d1 h_S_ (ix1 n)
    = ((∑ d, T d * T d : ℝ) : EReal) := by
  have hr : S16384x64.Reduces [1] S16384 := ⟨reducesTo_S16384x64_S16384_d1.1, by decide, reducesTo_S16384x64_S16384_d1.2⟩
  refine (Ideal.hostReduceAdd_single reducesTo_S16384x64_S16384_d1 hr (mulf (tokens x) (tokens x)) _ (ix1 n)).trans ?_
  rw [zero32, zero_add, coe_sum]
  refine Finset.sum_congr rfl fun (d : Fin 64) _ => ?_
  have hl : hr.lift (ix1 n) d = (ix2 n d : S16384x64.Idx) := by
    funext b; match b with | ⟨0, _⟩ => rfl | ⟨1, _⟩ => rfl
  rw [hl, mulf_apply, hT, EReal.coe_mul]

include hE in
theorem codeNorms_apply (k : Fin 1024) : Host.reduceAdd (mulf e e) (constant S_ .f32 0x00000000#32) reducesTo_S64x1024_S1024_d0 h_S_ (ix1 k)
    = ((∑ d, E d k * E d k : ℝ) : EReal) := by
  have hr : S64x1024.Reduces [0] S1024 := ⟨reducesTo_S64x1024_S1024_d0.1, by decide, reducesTo_S64x1024_S1024_d0.2⟩
  refine (Ideal.hostReduceAdd_single reducesTo_S64x1024_S1024_d0 hr (mulf e e) _ (ix1 k)).trans ?_
  rw [zero32, zero_add, coe_sum]
  refine Finset.sum_congr rfl fun (d : Fin 64) _ => ?_
  have hl : hr.lift (ix1 k) d = (ix2 d k : S64x1024.Idx) := by
    funext b; match b with | ⟨0, _⟩ => rfl | ⟨1, _⟩ => rfl
  rw [hl, mulf_apply, hE, EReal.coe_mul]

include hT hE in
theorem products_apply (k : Fin 1024) : Host.dotGeneral dot_S16384x64_S64x1024_S16384x1024_1_0_0_1_n_n none
      (mulf (broadcastInDim S16384x64 ![] bcast_S_S16384x64 (constant S_ .f32 0x40000000#32)) (tokens x)) e (ix2 n k)
    = ((∑ d, 2 * T d * E d k : ℝ) : EReal) := by
  refine (congrFun (matmul_zero_eq_dotGeneral dot_S16384x64_S64x1024_S16384x1024_1_0_0_1_n_n none _ e).symm _).trans ?_
  refine (Ideal.matmul_plain_apply none _ e _ n k).trans ?_
  have h0 : constant (F := Ideal) S16384x1024 .f32 0x00000000#32 (ix2 n k) = (0 : EReal) := by
    show Ideal.ofBits .f32 0x00000000#32 = 0
    simp
  rw [h0, zero_add, coe_sum]
  refine Finset.sum_congr rfl fun (d : Fin 64) _ => ?_
  rw [hE, mulf_apply, hT, EReal.coe_mul, EReal.coe_mul]
  refine congrArg (· * _) (congrArg (· * _) ?_)
  exact two32

include hT hE in
/-- An entry of the reference's distances. -/
theorem dist_apply (k : Fin 1024) : dist x e (ix2 n k) = ((Spec.dist T E k : ℝ) : EReal) := by
  unfold dist
  rw [addf_apply, subf_apply]
  have e1 := broadcastInDim_apply (s := S16384x1) (t := S16384x1024) ![0, 1] bcast_S16384x1_S16384x1024_0_1
    (broadcastInDim S16384x1 ![0] bcast_S16384_S16384x1_0 (Host.reduceAdd (mulf (tokens x) (tokens x)) (constant S_ .f32 0x00000000#32)
      reducesTo_S16384x64_S16384_d1 h_S_)) (ix2 n k) (ix2 n 0) (fun a => match a with | ⟨0, _⟩ => rfl | ⟨1, _⟩ => rfl)
  have e2 := broadcastInDim_apply (s := S16384) (t := S16384x1) ![0] bcast_S16384_S16384x1_0
    (Host.reduceAdd (mulf (tokens x) (tokens x)) (constant S_ .f32 0x00000000#32) reducesTo_S16384x64_S16384_d1 h_S_)
    (ix2 n 0) (ix1 n) (fun a => match a with | ⟨0, _⟩ => rfl)
  have e3 := broadcastInDim_apply (s := S1x1024) (t := S16384x1024) ![0, 1] bcast_S1x1024_S16384x1024_0_1
    (broadcastInDim S1x1024 ![1] bcast_S1024_S1x1024_1 (Host.reduceAdd (mulf e e) (constant S_ .f32 0x00000000#32)
      reducesTo_S64x1024_S1024_d0 h_S_)) (ix2 n k) (ix2 0 k) (fun a => match a with | ⟨0, _⟩ => rfl | ⟨1, _⟩ => rfl)
  have e4 := broadcastInDim_apply (s := S1024) (t := S1x1024) ![1] bcast_S1024_S1x1024_1
    (Host.reduceAdd (mulf e e) (constant S_ .f32 0x00000000#32) reducesTo_S64x1024_S1024_d0 h_S_)
    (ix2 0 k) (ix1 k) (fun a => match a with | ⟨0, _⟩ => rfl)
  rw [e1, e2, e3, e4, norms_apply x T n hT, codeNorms_apply e E hE k, products_apply x e T E n hT hE k]
  unfold Spec.dist
  rw [EReal.coe_add, EReal.coe_sub]

end

end Cert.ReferenceIdeal.Value

end
-- ==== Proof.RefArg.lean ====
/- The reference's search for the nearest code: the fold that keeps the larger negated distance finds the one code whose
   distance is least. -/
module

public import proofs.«01_k».proof.Proof.RefRun
public import Idealize.ShloMosaic.Lib.ValueIdx
public import Idealize.ShloMosaic.PureOps.Ideal.Laws
public import Idealize.ShloMosaic.PureOps.Reduce

@[expose] public section

set_option maxRecDepth 65536

noncomputable section

namespace Cert.ReferenceIdeal.Value

open Idealize.ShloMosaic Idealize.ShloMosaic.ValueIdx Cert.ReferenceIdeal Cert.ReferenceIdeal.Gen

/-- The larger of two pairs wins, whichever side it stands on. -/
theorem reducer_left (a b : EReal × BitVec 32) (h : b.1 < a.1) : reducer_argmax_f32_i32 (F := Ideal) a b = a := by
  have h1 : FloatOps.cmpf (F := Ideal) (φ := .f32) .ogt a.1 b.1 = 1#1 := by
    rw [Ideal.cmpf_def]; simp [Ideal.cmp, h]
  unfold reducer_argmax_f32_i32
  dsimp only
  rw [h1]
  have h2 : ∀ z : BitVec 1, IntOp.ori 1#1 z = 1#1 := by decide
  rw [h2, h2]
  rfl

theorem reducer_right (a b : EReal × BitVec 32) (h : a.1 < b.1) : reducer_argmax_f32_i32 (F := Ideal) a b = b := by
  have h1 : FloatOps.cmpf (F := Ideal) (φ := .f32) .ogt a.1 b.1 = 0#1 := by
    rw [Ideal.cmpf_def]; simp [Ideal.cmp, not_lt.2 h.le]
  have h3 : FloatOps.cmpf (F := Ideal) (φ := .f32) .une a.1 a.1 = 0#1 := by
    rw [Ideal.cmpf_def]; simp [Ideal.cmp]
  have h4 : FloatOps.cmpf (F := Ideal) (φ := .f32) .oeq a.1 b.1 = 0#1 := by
    rw [Ideal.cmpf_def]; simp [Ideal.cmp, h.ne]
  unfold reducer_argmax_f32_i32
  dsimp only
  rw [h1, h3, h4]
  have h2 : ∀ z : BitVec 1, IntOp.andi 0#1 z = 0#1 := by decide
  rw [h2]
  rfl

/-- A pair met by itself stays. -/
theorem reducer_self (a : EReal × BitVec 32) : reducer_argmax_f32_i32 (F := Ideal) a a = a := by
  unfold reducer_argmax_f32_i32
  dsimp only
  have h : ∀ (c : BitVec 1) (z : EReal), Scalar.select c z z = z := fun c z => by unfold Scalar.select; split <;> rfl
  have h' : ∀ (c : BitVec 1) (z : BitVec 32), Scalar.select c z z = z := fun c z => by unfold Scalar.select; split <;> rfl
  exact Prod.ext (h _ _) (h' _ _)

/-- Two pairs under a bound leave a pair under it. -/
theorem reducer_below (a b : EReal × BitVec 32) (v : EReal) (ha : a.1 < v) (hb : b.1 < v) :
    (reducer_argmax_f32_i32 (F := Ideal) a b).1 < v := by
  unfold reducer_argmax_f32_i32
  dsimp only
  have h : ∀ (c : BitVec 1) (z w : EReal), z < v → w < v → Scalar.select c z w < v := fun c z w hz hw => by
    unfold Scalar.select; split <;> assumption
  exact h _ _ _ ha hb

/-- Folding a list whose every pair is the best one or under it: the best one, once it has been met. -/
theorem fold_best (q : EReal × BitVec 32) (L : List (EReal × BitVec 32)) (hL : ∀ r ∈ L, r = q ∨ r.1 < q.1) :
    ∀ a : EReal × BitVec 32, (a = q → L.foldl (reducer_argmax_f32_i32 (F := Ideal)) a = q)
      ∧ (a.1 < q.1 → q ∈ L → L.foldl (reducer_argmax_f32_i32 (F := Ideal)) a = q) := by
  induction L with
  | nil => exact fun a => ⟨id, fun _ h => absurd h List.not_mem_nil⟩
  | cons r L ih =>
    have ih' := ih fun r' hr' => hL r' (List.mem_cons_of_mem _ hr')
    intro a
    rcases hL r List.mem_cons_self with hr | hr
    · subst hr
      refine ⟨fun ha => ?_, fun ha _ => ?_⟩
      · subst ha; rw [List.foldl_cons, reducer_self]; exact (ih' _).1 rfl
      · rw [List.foldl_cons, reducer_right a r ha]; exact (ih' _).1 rfl
    · refine ⟨fun ha => ?_, fun ha hm => ?_⟩
      · subst ha; rw [List.foldl_cons, reducer_left a r hr]; exact (ih' _).1 rfl
      · rw [List.foldl_cons]
        refine (ih' _).2 (reducer_below a r _ ha hr) ?_
        rcases List.mem_cons.1 hm with h | h
        · subst h; exact absurd hr (lt_irrefl _)
        · exact h

/-- What stands in the list that the fold of position `j` goes through. -/
theorem mem_fiber {α β : Type} {s t : Shape} {axes : List (Fin s.rank)} (x : s.Idx → α) (y : s.Idx → β) (h : s.ReducesTo axes t) (j : t.Idx)
    (r : α × β) : r ∈ Host.argReduceFiber x y h j ↔ ∃ i, h.drop i = j ∧ (x i, y i) = r := by
  unfold Host.argReduceFiber
  rw [List.mem_map]
  constructor
  · rintro ⟨m, hm, rfl⟩
    exact ⟨_, of_decide_eq_true (List.mem_filter.1 hm).2, rfl⟩
  · rintro ⟨i, hi, rfl⟩
    refine ⟨s.rowMajor i, List.mem_filter.2 ⟨List.mem_finRange _, ?_⟩, ?_⟩
    · exact decide_eq_true (by rw [Equiv.symm_apply_apply]; exact hi)
    · rw [Equiv.symm_apply_apply]

theorem drop_iff (i : S16384x1024.Idx) (n : Fin 16384) : reducesTo_S16384x1024_S16384_d1.drop i = ix1 n ↔ i 0 = n := by
  constructor
  · intro h; exact congrFun h 0
  · intro h; funext b; match b with | ⟨0, _⟩ => exact h

theorem negf_apply (s : FVec Ideal S16384x1024 .f32) (D : Fin 1024 → ℝ) (n : Fin 16384)
    (hs : ∀ k, s (ix2 n k) = ((D k : ℝ) : EReal)) (i : S16384x1024.Idx) (hi : i 0 = n) :
    Host.negf s i = ((-D (i 1) : ℝ) : EReal) := by
  have e : i = ix2 n (i 1) := by
    funext b; match b with | ⟨0, _⟩ => exact hi | ⟨1, _⟩ => rfl
  have e2 : s i = ((D (i 1) : ℝ) : EReal) := (congrArg s e).trans (hs (i 1))
  rw [EReal.coe_neg, ← e2]
  rfl

/-- The number an arg-reduction leaves: that of the one pair above all the others. -/
theorem argReduce_best {s t u : Shape} {axes : List (Fin s.rank)} (x : FVec Ideal s .f32) (y : IVec s 32) (ix : FVec Ideal u .f32)
    (iy : IVec u 32) (h : s.ReducesTo axes t) (hu : 0 < u.numel) (j : t.Idx) (i₀ : s.Idx) (h₀ : h.drop i₀ = j)
    (hbot : (ix (Shape.Idx.first hu) : EReal) < x i₀)
    (hx : ∀ i, h.drop i = j → i = i₀ ∨ (x i : EReal) < x i₀) :
    (Host.argReduce (reducer_argmax_f32_i32 (F := Ideal)) x y ix iy h hu j).2 = y i₀ := by
  rw [Ideal.argReduce_eq_reduce2, Host.reduce2_eq_foldl_fiber]
  refine congrArg Prod.snd ((fold_best (x i₀, y i₀) _ ?_ _).2 hbot ((mem_fiber x y h j _).2 ⟨i₀, h₀, rfl⟩))
  intro r hr
  obtain ⟨i, hi, rfl⟩ := (mem_fiber x y h j r).1 hr
  rcases hx i hi with rfl | hlt
  · exact Or.inl rfl
  · exact Or.inr hlt

theorem foldArg_fun (s : FVec Ideal S16384x1024 .f32) (y : IVec S16384x1024 32) (u : FVec Ideal S_ .f32) (v : IVec S_ 32) :
    foldArg s y u v = fun j => (Host.argReduce (reducer_argmax_f32_i32 (F := Ideal)) s y u v reducesTo_S16384x1024_S16384_d1 h_S_ j).2 := rfl

/-- The number found: the one code whose distance is less than every other's. -/
theorem argmax_apply (s : FVec Ideal S16384x1024 .f32) (D : Fin 1024 → ℝ) (n : Fin 16384) (κ : Fin 1024)
    (hs : ∀ k, s (ix2 n k) = ((D k : ℝ) : EReal)) (hκ : ∀ k, k ≠ κ → D κ < D k) :
    argmax s (ix1 n) = BitVec.ofNat 32 κ.val := by
  unfold argmax
  have hbot : (constant (F := Ideal) S_ .f32 0xFF800000#32) (Shape.Idx.first h_S_) = (⊥ : EReal) := by
    show Ideal.ofBits .f32 0xFF800000#32 = ⊥
    simp [Ideal.ofBits, Ideal.ieee]
  have H := argReduce_best (Host.negf s) (iotaInDim S16384x1024 32 1) (constant S_ .f32 0xFF800000#32) (constantI S_ 32 0#32)
    reducesTo_S16384x1024_S16384_d1 h_S_ (ix1 n) (ix2 n κ) ((drop_iff _ n).2 rfl)
    (by rw [hbot, negf_apply s D n hs _ rfl]; exact EReal.bot_lt_coe _)
    (fun i hi => by
      have hi' := (drop_iff i n).1 hi
      by_cases hk : i 1 = κ
      · left
        funext b; match b with | ⟨0, _⟩ => exact hi' | ⟨1, _⟩ => exact hk
      · right
        rw [negf_apply s D n hs i hi', negf_apply s D n hs (ix2 n κ) rfl]
        exact EReal.coe_lt_coe_iff.2 (neg_lt_neg (hκ _ hk)))
  exact (congrFun (foldArg_fun (Host.negf s) (iotaInDim S16384x1024 32 1) (constant S_ .f32 0xFF800000#32) (constantI S_ 32 0#32)) (ix1 n)).trans H

end Cert.ReferenceIdeal.Value

end
-- ==== Proof.RefTake.lean ====
/- The reference's lookup of codes by number: at a number below 1024 it reads that code. -/
module

public import proofs.«01_k».proof.Proof.RefRun
public import Idealize.ShloMosaic.Lib.ValueIdx
public import Idealize.ShloMosaic.Lib.ValueLayout
public import Idealize.ShloMosaic.Lib.Pipeline.Value
public import Idealize.ShloMosaic.PureOps.Reduce

@[expose] public section

set_option maxRecDepth 65536

noncomputable section

namespace Cert.ReferenceIdeal.Value

open Idealize.ShloMosaic Idealize.ShloMosaic.ValueIdx Cert.ReferenceIdeal Cert.ReferenceIdeal.Gen

variable {F : FTy → Type} [FloatOps F]

/-- Numbers below 1024: not negative, at most 1023, and read back as themselves. -/
theorem number_facts (k : Fin 1024) : IntOp.cmpi .slt (BitVec.ofNat 32 k.val) 0#32 = 0#1
    ∧ IntOp.cmpi .sge (BitVec.ofNat 32 k.val) 0#32 = 1#1 ∧ IntOp.cmpi .sle (BitVec.ofNat 32 k.val) 1023#32 = 1#1
    ∧ (BitVec.ofNat 32 k.val).toInt = (k.val : Int) := by
  have hk := k.isLt
  have ht : (BitVec.ofNat 32 k.val).toInt = (k.val : Int) := by
    rw [BitVec.toInt_eq_toNat_of_lt (by rw [BitVec.toNat_ofNat]; omega), BitVec.toNat_ofNat]
    omega
  have h1023 : (1023#32).toInt = 1023 := by decide
  have h0 : (0#32).toInt = 0 := by decide
  refine ⟨?_, ?_, ?_, ht⟩
  · show BitVec.ofBool (decide ((BitVec.ofNat 32 k.val).toInt < (0#32).toInt)) = 0#1
    rw [ht, h0, decide_eq_false (by omega)]; rfl
  · show BitVec.ofBool (decide ((0#32).toInt ≤ (BitVec.ofNat 32 k.val).toInt)) = 1#1
    rw [ht, h0, decide_eq_true (by omega)]; rfl
  · show BitVec.ofBool (decide ((BitVec.ofNat 32 k.val).toInt ≤ (1023#32).toInt)) = 1#1
    rw [ht, h1023, decide_eq_true (by omega)]; rfl

variable (i : IVec S16x32x32 32) (b : Fin 16) (h w : Fin 32) (κ : Fin 1024) (hi : i (ix3 b h w) = BitVec.ofNat 32 κ.val)

include hi in
theorem wrap_apply : wrap i (ix4 b h w 0) = BitVec.ofNat 32 κ.val := by
  unfold wrap
  refine (broadcastInDim_apply (s := S16x32x32) (t := S16x32x32x1) ![0, 1, 2] bcast_S16x32x32_S16x32x32x1_0_1_2 _ (ix4 b h w 0) (ix3 b h w)
    (fun a => match a with | ⟨0, _⟩ => rfl | ⟨1, _⟩ => rfl | ⟨2, _⟩ => rfl)).trans ?_
  show Scalar.select (IntOp.cmpi .slt (i (ix3 b h w)) 0#32) (IntOp.addi (i (ix3 b h w)) 1024#32) (i (ix3 b h w)) = _
  rw [hi, (number_facts κ).1]
  rfl

include hi in
theorem inRange_apply : inRange (wrap i) (ix3 b h w) = 1#1 := by
  have hr : S16x32x32x1.Reduces [3] S16x32x32 := ⟨reducesTo_S16x32x32x1_S16x32x32_d3.1, by decide, reducesTo_S16x32x32x1_S16x32x32_d3.2⟩
  unfold inRange
  rw [Host.reduce_eq_fold, Shape.ReducesTo.drop_eq_drop _ hr]
  refine (Shape.Reduces.fold_filter_drop_single _ _ _ _ _).trans ?_
  refine (Finset.fold_congr (g := fun _ => 1#1) fun (k : Fin 1) _ => ?_).trans (by decide)
  have hl : hr.lift (ix3 b h w) k = (ix4 b h w 0 : S16x32x32x1.Idx) := by
    funext a; match a with | ⟨0, _⟩ => rfl | ⟨1, _⟩ => rfl | ⟨2, _⟩ => rfl | ⟨3, _⟩ => exact Subsingleton.elim (α := Fin 1) _ _
  refine (congrArg (andi (cmpi .sge (wrap i) _) (cmpi .sle (wrap i) _)) hl).trans ?_
  show IntOp.andi (IntOp.cmpi .sge (wrap i (ix4 b h w 0)) 0#32) (IntOp.cmpi .sle (wrap i (ix4 b h w 0)) 1023#32) = 1#1
  rw [wrap_apply i b h w κ hi, (number_facts κ).2.1, (number_facts κ).2.2.1]
  rfl

include hi in
theorem gather_apply (t : FVec F S1024x64 .f32) (d : Fin 64) :
    Host.gather gather_S1024x64_S16x32x32x1_S16x32x32x64_3_0_n_n_0_3_164 t (wrap i) (ix4 b h w d) = t (ix2 κ d) := by
  unfold Host.gather
  refine congrArg t (funext fun a => Fin.ext ?_)
  show gather_S1024x64_S16x32x32x1_S16x32x32x64_3_0_n_n_0_3_164.start (ix4 b h w d) (wrap i) a
    + gather_S1024x64_S16x32x32x1_S16x32x32x64_3_0_n_n_0_3_164.batchCoord (ix4 b h w d) a
    + gather_S1024x64_S16x32x32x1_S16x32x32x64_3_0_n_n_0_3_164.offCoord (ix4 b h w d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ gather_S1024x64_S16x32x32x1_S16x32x32x64_3_0_n_n_0_3_164.startIndexMap from
      List.mem_singleton.mpr rfl)]
    have hsi : gather_S1024x64_S16x32x32x1_S16x32x32x64_3_0_n_n_0_3_164.siIdx (ix4 b h w d) ⟨List.idxOf (0 : Fin 2) [0],
        List.idxOf_lt_length_iff.2 (List.mem_singleton.mpr rfl)⟩ = (ix4 b h w 0 : S16x32x32x1.Idx) := by
      funext c; refine Fin.ext ?_
      match c with | ⟨0, _⟩ => rfl | ⟨1, _⟩ => rfl | ⟨2, _⟩ => rfl | ⟨3, _⟩ => rfl
    have e : wrap i (gather_S1024x64_S16x32x32x1_S16x32x32x64_3_0_n_n_0_3_164.siIdx (ix4 b h w d) ⟨List.idxOf (0 : Fin 2) [0],
        List.idxOf_lt_length_iff.2 (List.mem_singleton.mpr rfl)⟩) = BitVec.ofNat 32 κ.val := by
      rw [hsi]; exact wrap_apply i b h w κ hi
    refine (congrArg (fun z : BitVec 32 => min z.toInt.toNat 1023) e).trans ?_
    show min (BitVec.ofNat 32 κ.val).toInt.toNat 1023 = κ.val
    rw [(number_facts κ).2.2.2]
    have := κ.isLt
    omega
  | ⟨1, _⟩ =>
    have hst : gather_S1024x64_S16x32x32x1_S16x32x32x64_3_0_n_n_0_3_164.start (ix4 b h w d) (wrap i) ⟨1, by decide⟩ = 0 := by
      unfold GatherDims.start
      rw [dif_neg (by decide)]
    refine (congrArg (· + _) hst).trans ((Nat.zero_add _).trans ?_)
    rfl

include hi in
theorem take_apply (t : FVec F S1024x64 .f32) (d : Fin 64) : take t i (ix4 b h w d) = t (ix2 κ d) := by
  unfold take
  rw [select_apply, gather_apply i b h w κ hi]
  have e := broadcastInDim_apply (s := S16x32x32) (t := S16x32x32x64) ![0, 1, 2] bcast_S16x32x32_S16x32x32x64_0_1_2 (inRange (wrap i))
    (ix4 b h w d) (ix3 b h w) (fun a => match a with | ⟨0, _⟩ => rfl | ⟨1, _⟩ => rfl | ⟨2, _⟩ => rfl)
  rw [e, inRange_apply i b h w κ hi]
  rfl

include hi in
/-- A looked-up channel is the named code's. -/
theorem lookup_apply (e : FVec F S64x1024 .f32) (d : Fin 64) : lookup e i (ix4 b d h w) = e (ix2 d κ) := by
  unfold lookup
  refine (transpose_apply (s := S16x32x32x64) (t := S16x64x32x32) [0, 3, 1, 2] _ _ (ix4 b d h w) (ix4 b h w d)
    (fun a => match a with | ⟨0, _⟩ => rfl | ⟨1, _⟩ => rfl | ⟨2, _⟩ => rfl | ⟨3, _⟩ => rfl)).trans ?_
  rw [take_apply i b h w κ hi]
  exact transpose_ix2_apply e _ κ d

end Cert.ReferenceIdeal.Value

end
-- ==== Proof.Errors.lean ====
/- The squared error of all the tokens, each against its own code. -/
module

public import proofs.«01_k».proof.Proof.Spec
public import proofs.«01_k».proof.Proof.Places
public import Mathlib.Algebra.BigOperators.Fin
public import Mathlib.Algebra.BigOperators.Group.Finset.Sigma

@[expose] public section

namespace Cert.Spec

open scoped BigOperators

/-- The squared error of one channel of one token. -/
noncomputable def sqErr (X : Fin 16 → Fin 64 → Fin 1024 → ℝ) (E : Fin 64 → Fin 1024 → ℝ) (κ : Fin 16 → Fin 1024 → Fin 1024)
    (b : Fin 16) (d : Fin 64) (p : Fin 1024) : ℝ := (E d (κ b p) - X b d p) * (E d (κ b p) - X b d p)

/-- The squared error of all of them. -/
noncomputable def errors (X : Fin 16 → Fin 64 → Fin 1024 → ℝ) (E : Fin 64 → Fin 1024 → ℝ) (κ : Fin 16 → Fin 1024 → Fin 1024) : ℝ :=
  ∑ b, ∑ d, ∑ p, sqErr X E κ b d p

/-- A sum over the pixels by row and column. -/
theorem sum_pix (f : Fin 1024 → ℝ) : ∑ h, ∑ w, f (pix h w) = ∑ p, f p := by
  rw [← Finset.sum_product']
  refine Finset.sum_bij' (fun q _ => pix q.1 q.2) (fun p _ => (rowOf p, colOf p)) (fun _ _ => Finset.mem_univ _)
    (fun _ _ => Finset.mem_product.2 ⟨Finset.mem_univ _, Finset.mem_univ _⟩) (fun q _ => ?_) (fun p _ => pix_of p) (fun _ _ => rfl)
  exact Prod.ext (rowOf_pix q.1 q.2) (colOf_pix q.1 q.2)

/-- A sum over the images by halves. -/
theorem sum_halves (f : Fin 16 → ℝ) :
    ∑ k : Fin 8, f ⟨(0 : Fin 2).val * 8 + k.val, by have := k.isLt; show 0 * 8 + k.val < 16; omega⟩
      + ∑ k : Fin 8, f ⟨(1 : Fin 2).val * 8 + k.val, by have := k.isLt; show 1 * 8 + k.val < 16; omega⟩ = ∑ b, f b := by
  refine Eq.trans ?_ (Fin.sum_univ_add (a := 8) (b := 8) f).symm
  refine congrArg₂ (· + ·) (Finset.sum_congr rfl fun k _ => congrArg f (Fin.ext ?_)) (Finset.sum_congr rfl fun k _ => congrArg f (Fin.ext ?_))
  · show 0 * 8 + k.val = k.val; omega
  · show 1 * 8 + k.val = 8 + k.val; omega

end Cert.Spec
-- ==== Proof.RefValue.lean ====
/- The reference's three results at the exact values: each token's nearest code, that code's number, and the squared error
   of all of them over their count. -/
module

public import proofs.«01_k».proof.Proof.RefDist
public import proofs.«01_k».proof.Proof.RefArg
public import proofs.«01_k».proof.Proof.RefTake
public import proofs.«01_k».proof.Proof.Errors
public import Idealize.ShloMosaic.Lib.Pointwise

@[expose] public section

set_option maxRecDepth 65536

noncomputable section

namespace Cert.ReferenceIdeal.Value

open Idealize.ShloMosaic hiding ix1 ix2 ix3 ix4
open Idealize.ShloMosaic.ValueIdx Cert.ReferenceIdeal Cert.ReferenceIdeal.Gen Cert.Spec
open scoped BigOperators

variable (X : Fin 16 → Fin 64 → Fin 1024 → ℝ) (E : Fin 64 → Fin 1024 → ℝ) (κ : Fin 16 → Fin 1024 → Fin 1024)
  (x : FVec Ideal S16x64x32x32 .f32) (e : FVec Ideal S64x1024 .f32)
  (hx : ∀ b d h w, x (ix4 b d h w) = ((X b d (pix h w) : ℝ) : EReal)) (he : ∀ d k, e (ix2 d k) = ((E d k : ℝ) : EReal))
  (hκ : ∀ b p, Nearest (fun d => X b d p) E (κ b p))

include hx he in
/-- An entry of the distances, by image and pixel. -/
theorem dist_tok (b : Fin 16) (h w : Fin 32) (k : Fin 1024) :
    dist x e (ix2 (tok b (pix h w)) k) = ((Spec.dist (fun d => X b d (pix h w)) E k : ℝ) : EReal) :=
  dist_apply x e (fun d => X b d (pix h w)) E (tok b (pix h w)) (fun d => (tokens_apply x b h w d).trans (hx b d h w)) he k

include hx he hκ

/-- The third result: the nearest code's number. -/
theorem outI_apply (b : Fin 16) (h w : Fin 32) : outI x e (ix3 b h w) = BitVec.ofNat 32 (κ b (pix h w)).val := by
  unfold outI numbers
  refine (shapeCast_apply (s := S16384) (t := S16x32x32) _ _ (ix3 b h w) (ix1 (tok b (pix h w))) ?_).trans ?_
  · rw [Shape.rowMajor_val_three, Shape.rowMajor_val_one]
    show b.val * 1024 + (h.val * 32 + w.val) = (b.val * 32 + h.val) * 32 + w.val
    omega
  · exact argmax_apply (dist x e) _ (tok b (pix h w)) (κ b (pix h w)) (dist_tok X E x e hx he b h w) (hκ b (pix h w))

theorem codes_apply (b : Fin 16) (d : Fin 64) (h w : Fin 32) : lookup e (outI x e) (ix4 b d h w) = ((E d (κ b (pix h w)) : ℝ) : EReal) :=
  (lookup_apply (outI x e) b h w (κ b (pix h w)) (outI_apply X E κ x e hx he hκ b h w) e d).trans (he _ _)

/-- The first result: every channel is the nearest code's. -/
theorem outQ_apply (b : Fin 16) (d : Fin 64) (h w : Fin 32) : outQ x e (ix4 b d h w) = ((E d (κ b (pix h w)) : ℝ) : EReal) := by
  unfold outQ stq
  rw [addf_apply, subf_apply, codes_apply X E κ x e hx he hκ b d h w, hx b d h w, ← EReal.coe_sub, ← EReal.coe_add]
  exact congrArg _ (by ring)

/-- The second result: the squared error of all tokens over the count of their channels. -/
theorem outD_apply (j : S_.Idx) : outD x e j = Ideal.div ((errors X E κ : ℝ) : EReal) (Ideal.ofBits .f32 0x49800000#32) := by
  unfold outD msd
  refine congrArg (fun z => Ideal.div z (Ideal.ofBits .f32 0x49800000#32)) ?_
  refine (Ideal.hostReduceAdd_total reducesTo_S16x64x32x32_S_d0_1_2_3 (fun b => b.elim0) _ _ j).trans ?_
  rw [zero32, zero_add]
  refine (sum_idx4 _).trans ?_
  unfold errors
  rw [coe_sum]
  refine Finset.sum_congr rfl fun b _ => ?_
  rw [coe_sum]
  refine Finset.sum_congr rfl fun d _ => ?_
  rw [← sum_pix, coe_sum]
  refine Finset.sum_congr rfl fun h _ => ?_
  rw [coe_sum]
  refine Finset.sum_congr rfl fun w _ => ?_
  have e1 := codes_apply X E κ x e hx he hκ b d h w
  have e2 := hx b d h w
  unfold sqErr
  rw [EReal.coe_mul, EReal.coe_sub, ← e1, ← e2]
  rfl

end Cert.ReferenceIdeal.Value

end
-- ==== Proof.Pre.lean ====
/- What the precondition says at the exact values: every number is finite, and each token has one nearest code. -/
module

public import proofs.«01_k».proof.Pre_finite_nearest
public import proofs.«01_k».proof.Proof.Gen.Pre_finite_nearest
public import proofs.«01_k».proof.Proof.RefValue

@[expose] public section

set_option maxRecDepth 65536

noncomputable section

namespace Cert.Pre_finite_nearest

open Idealize.ShloMosaic hiding ix1 ix2 ix3 ix4
open Idealize.ShloMosaic.ValueIdx Cert.Spec
open Cert.Pre_finite_nearest.Gen
open scoped BigOperators

/-- Below infinity in absolute value means a real number. -/
theorem real_of_bit (a : EReal) (h : FloatOps.cmpf (F := Ideal) (φ := .f32) .olt (FloatOps.absf (F := Ideal) (φ := .f32) a) (Ideal.ofBits .f32 0x7F800000#32) = 1#1) :
    ((a.toReal : ℝ) : EReal) = a := by
  have ht : Ideal.ofBits .f32 0x7F800000#32 = ⊤ := by simp [Ideal.ofBits, Ideal.ieee]
  rw [ht, Ideal.cmpf_def, Ideal.absf_def] at h
  have hlt : max a (-a) < ⊤ := by
    by_contra hc
    simp [Ideal.cmp, hc] at h
  obtain ⟨h1, h2⟩ := max_lt_iff.1 hlt
  refine EReal.coe_toReal h1.ne ?_
  rintro rfl
  simp at h2

/-- Equal words where the comparison says so. -/
theorem eq_of_bit {s : Shape} (a b : IVec s 32) (j : s.Idx) (h : cmpi .eq a b = fun _ => 1#1) : a j = b j := by
  have hb : BitVec.ofBool (a j == b j) = 1#1 := congrFun h j
  by_contra hn
  rw [beq_eq_false_iff_ne.2 hn] at hb
  exact absurd hb (by decide)

/-- A sum of words zero or one that is one has exactly one of them one. -/
theorem one_of_sum (f : Fin 1024 → BitVec 1)
    (h : (Finset.univ : Finset (Fin 1024)).fold IntOp.addi 0#32 (fun k => (f k).setWidth 32) = 1#32) :
    ∃ κ, f κ = 1#1 ∧ ∀ k, k ≠ κ → f k = 0#1 := by
  have key : ∀ S : Finset (Fin 1024), S.fold IntOp.addi 0#32 (fun k => (f k).setWidth 32)
      = BitVec.ofNat 32 (S.filter fun k => f k = 1#1).card := by
    intro S
    induction S using Finset.induction_on with
    | empty => rfl
    | insert a S ha ih =>
      rw [Finset.fold_insert ha, ih, Finset.filter_insert]
      rcases BitVec.eq_zero_or_eq_one (f a) with h0 | h1
      · rw [h0, if_neg (by decide)]
        show BitVec.setWidth 32 0#1 + _ = _
        simp
      · rw [h1, if_pos rfl, Finset.card_insert_of_notMem (fun hm => ha (Finset.mem_filter.1 hm).1)]
        show BitVec.setWidth 32 1#1 + _ = _
        rw [Nat.add_comm, BitVec.ofNat_add]
        rfl
  rw [key] at h
  have hc : (Finset.univ.filter fun k => f k = 1#1).card = 1 := by
    have hle : (Finset.univ.filter fun k => f k = 1#1).card ≤ 1024 := by
      simpa using Finset.card_filter_le (Finset.univ : Finset (Fin 1024)) (fun k => f k = 1#1)
    have := congrArg BitVec.toNat h
    rw [BitVec.toNat_ofNat] at this
    have h1 : (1#32).toNat = 1 := rfl
    omega
  obtain ⟨κ, hκ⟩ := Finset.card_eq_one.1 hc
  refine ⟨κ, (Finset.mem_filter.1 (hκ ▸ Finset.mem_singleton_self κ : κ ∈ Finset.univ.filter fun k => f k = 1#1)).2, fun k hk => ?_⟩
  rcases BitVec.eq_zero_or_eq_one (f k) with h0 | h1
  · exact h0
  · exact absurd (Finset.mem_singleton.1 (hκ ▸ Finset.mem_filter.2 ⟨Finset.mem_univ k, h1⟩)) hk

variable (x : FVec Ideal S16x64x32x32 .f32) (e : FVec Ideal S64x1024 .f32)

/-- The least entry of each row of distances. -/
def least (d : FVec Ideal S16384x1024 .f32) : FVec Ideal S16384 .f32 :=
  Host.reduce FloatOps.minimumf d (constant S_ .f32 0x7F800000#32) reducesTo_S16384x1024_S16384_d1 h_S_

/-- Where the least entry stands in its row. -/
def hits (d : FVec Ideal S16384x1024 .f32) : IVec S16384x1024 1 :=
  cmpf .oeq d (broadcastInDim S16384x1024 ![0, 1] bcast_S16384x1_S16384x1024_0_1 (broadcastInDim S16384x1 ![0] bcast_S16384_S16384x1_0 (least d)))

/-- How often. -/
def count (d : FVec Ideal S16384x1024 .f32) : IVec S16384 32 :=
  Host.reduce IntOp.addi (extui 32 (hits d) natLt_1_32) (constantI S_ 32 0#32) reducesTo_S16384x1024_S16384_d1 h_S_

/-- The count asked for, at every token. -/
def ones : IVec S16384 32 := broadcastInDim S16384 ![] bcast_S_S16384 (constantI S_ 32 1#32)

theorem ones_apply (j : S16384.Idx) : ones j = 1#32 := rfl

theorem fn_eq : fn (F := Ideal) x e
    = (cmpf .olt (Host.absf x) (broadcastInDim S16x64x32x32 ![] bcast_S_S16x64x32x32 (constant S_ .f32 0x7F800000#32)),
      cmpf .olt (Host.absf e) (broadcastInDim S64x1024 ![] bcast_S_S64x1024 (constant S_ .f32 0x7F800000#32)),
      cmpi .eq (count (ReferenceIdeal.Value.dist x e)) ones) := rfl

theorem lift_eq (hr : S16384x1024.Reduces [1] S16384) (n : Fin 16384) (k : Fin 1024) :
    hr.lift (ix1 n) k = (ix2 n k : S16384x1024.Idx) := by
  funext b; match b with | ⟨0, _⟩ => rfl | ⟨1, _⟩ => rfl

theorem least_le (d : FVec Ideal S16384x1024 .f32) (n : Fin 16384) (k : Fin 1024) : least d (ix1 n) ≤ d (ix2 n k) := by
  have hr : S16384x1024.Reduces [1] S16384 := ⟨reducesTo_S16384x1024_S16384_d1.1, by decide, reducesTo_S16384x1024_S16384_d1.2⟩
  unfold least
  rw [Host.reduce_eq_fold, Shape.ReducesTo.drop_eq_drop _ hr]
  refine (le_of_eq (Shape.Reduces.fold_filter_drop_single _ _ _ _ _)).trans ?_
  exact (Finset.fold_min_le _).2 (Or.inr ⟨k, Finset.mem_univ _, le_of_eq (congrArg d (lift_eq hr n k))⟩)

theorem hits_apply (d : FVec Ideal S16384x1024 .f32) (n : Fin 16384) (k : Fin 1024) :
    hits d (ix2 n k) = BitVec.ofBool (decide (d (ix2 n k) = least d (ix1 n))) := by
  have hb : broadcastInDim S16384x1024 ![0, 1] bcast_S16384x1_S16384x1024_0_1 (broadcastInDim S16384x1 ![0] bcast_S16384_S16384x1_0 (least d)) (ix2 n k)
      = least d (ix1 n) :=
    (broadcastInDim_apply (s := S16384x1) (t := S16384x1024) ![0, 1] bcast_S16384x1_S16384x1024_0_1 _ (ix2 n k) (ix2 n 0)
      (fun a => match a with | ⟨0, _⟩ => rfl | ⟨1, _⟩ => rfl)).trans
    (broadcastInDim_apply (s := S16384) (t := S16384x1) ![0] bcast_S16384_S16384x1_0 _ (ix2 n 0) (ix1 n)
      (fun a => match a with | ⟨0, _⟩ => rfl))
  exact congrArg (fun z => BitVec.ofBool (decide (d (ix2 n k) = z))) hb

theorem count_apply (d : FVec Ideal S16384x1024 .f32) (n : Fin 16384) :
    count d (ix1 n) = (Finset.univ : Finset (Fin 1024)).fold IntOp.addi 0#32 (fun k => (hits d (ix2 n k)).setWidth 32) := by
  have hr : S16384x1024.Reduces [1] S16384 := ⟨reducesTo_S16384x1024_S16384_d1.1, by decide, reducesTo_S16384x1024_S16384_d1.2⟩
  unfold count
  rw [Host.reduce_eq_fold, Shape.ReducesTo.drop_eq_drop _ hr]
  refine (Shape.Reduces.fold_filter_drop_single _ _ _ _ _).trans ?_
  exact Finset.fold_congr fun (k : Fin 1024) _ => congrArg (fun i => (hits d i).setWidth 32) (lift_eq hr n k)

/-- A row attaining its least entry once has one entry below all its others. -/
theorem one_least (d : FVec Ideal S16384x1024 .f32) (n : Fin 16384) (h : count d (ix1 n) = 1#32) :
    ∃ κ, ∀ k, k ≠ κ → d (ix2 n κ) < d (ix2 n k) := by
  rw [count_apply] at h
  obtain ⟨κ, h1, h0⟩ := one_of_sum _ h
  have e1 : d (ix2 n κ) = least d (ix1 n) := by
    by_contra hc
    rw [hits_apply, decide_eq_false hc] at h1
    exact absurd h1 (by decide)
  refine ⟨κ, fun k hk => ?_⟩
  rw [e1]
  refine lt_of_le_of_ne (least_le d n k) fun hc => ?_
  have := h0 k hk
  rw [hits_apply, decide_eq_true hc.symm] at this
  exact absurd this (by decide)

/-- The arguments' entries as real numbers, by image, channel and pixel, and by channel and code. -/
def realX (b : Fin 16) (d : Fin 64) (p : Fin 1024) : ℝ := (x (ix4 b d (rowOf p) (colOf p))).toReal
def realE (d : Fin 64) (k : Fin 1024) : ℝ := (e (ix2 d k)).toReal

/-- Where the precondition holds, the arguments are real numbers and each token has one nearest code. -/
theorem reals (h0 : (fn (F := Ideal) x e).1 = fun _ => 1#1) (h1 : (fn (F := Ideal) x e).2.1 = fun _ => 1#1)
    (h2 : (fn (F := Ideal) x e).2.2 = fun _ => 1#1) :
    ∃ (X : Fin 16 → Fin 64 → Fin 1024 → ℝ) (E : Fin 64 → Fin 1024 → ℝ) (κ : Fin 16 → Fin 1024 → Fin 1024),
      (∀ b d h w, x (ix4 b d h w) = ((X b d (pix h w) : ℝ) : EReal)) ∧ (∀ d k, e (ix2 d k) = ((E d k : ℝ) : EReal))
      ∧ ∀ b p, Nearest (fun d => X b d p) E (κ b p) := by
  rw [fn_eq] at h0 h1 h2
  dsimp only at h0 h1 h2
  have hx : ∀ b d h w, x (ix4 b d h w) = ((realX x b d (pix h w) : ℝ) : EReal) := fun b d h w => by
    unfold realX
    rw [rowOf_pix, colOf_pix]
    exact (real_of_bit _ (congrFun h0 (ix4 b d h w))).symm
  have he : ∀ d k, e (ix2 d k) = ((realE e d k : ℝ) : EReal) := fun d k =>
    (real_of_bit _ (congrFun h1 (ix2 d k))).symm
  refine ⟨realX x, realE e, ?_⟩
  have near : ∀ b p, ∃ κ, Nearest (fun d => realX x b d p) (realE e) κ := fun b p => by
    have hc := (eq_of_bit (count (ReferenceIdeal.Value.dist x e)) ones (ix1 (tok b p)) h2).trans (ones_apply _)
    obtain ⟨κ, hκ⟩ := one_least _ _ hc
    refine ⟨κ, fun k hk => ?_⟩
    have hlt := hκ k hk
    have hd := fun k => ReferenceIdeal.Value.dist_tok (realX x) (realE e) x e hx he b (rowOf p) (colOf p) k
    rw [pix_of] at hd
    rw [hd, hd] at hlt
    exact EReal.coe_lt_coe_iff.1 hlt
  choose κ hκ using near
  exact ⟨κ, hx, he, hκ⟩

end Cert.Pre_finite_nearest

end
-- ==== Proof.KerImg.lean ====
/- One image of the kernel's body as three functions of the codes, the codes with their three extra rows, and the image. -/
module

public import proofs.«01_k».proof.Proof.Gen.KernelIdeal.Skeleton

@[expose] public section

noncomputable section

namespace Cert.KernelIdeal.Img

open Idealize.ShloMosaic Cert.KernelIdeal Cert.KernelIdeal.Gen

variable {F : FTy → Type} [FloatOps F]

/-- The quantised image. -/
def quant (e : Vec F S64x1024 .f32) (a : Vec F S72x1024 .bf16) (x : Vec F S1x64x1024 .f32) : FVec F S1x64x1024 .f32 :=
  k0_pay16 (k0_pay12 e a x) (k0_pay14 e a x)

/-- The code numbers of the image's tokens. -/
def index (e : Vec F S64x1024 .f32) (a : Vec F S72x1024 .bf16) (x : Vec F S1x64x1024 .f32) : IVec S1x1x1024 32 :=
  k0_pay17 (k0_pay13 e a x)

/-- The running squared error with this image's added. -/
def step (e : Vec F S64x1024 .f32) (a : Vec F S72x1024 .bf16) (s : FVec F S1x1 .f32) (x : Vec F S1x64x1024 .f32) : FVec F S1x1 .f32 :=
  k0_pay18 s (k0_pay10 x) (k0_pay12 e a x) (k0_pay14 e a x)

/-- The squared error a grid point accumulates: the sum carried so far plus its own. -/
def acc (s p : FVec F S1x1 .f32) : FVec F S1x1 .f32 := addf (shapeCast S1x1 s shapeCasts_S1x1_S1x1) p

end Cert.KernelIdeal.Img

end
-- ==== Proof.KerBlocks.lean ====
/- The contents the kernel's body leaves in its three results' buffers, as images. -/
module

public import proofs.«01_k».proof.Proof.Gen.KernelIdeal.Frame
public import proofs.«01_k».proof.Proof.KerImg
public import Idealize.ShloMosaic.Lib.Pipeline.Value
public import Idealize.ShloMosaic.Lib.ValueIdx

@[expose] public section

set_option maxRecDepth 65536

noncomputable section

namespace Cert.KernelIdeal.Img

open Idealize.ShloMosaic Cert.KernelIdeal Cert.KernelIdeal.Gen

variable {F : FTy → Type} [FloatOps F]

variable (c : Dev nD) (i : grid0.Coords) (arg1 : Memref sig .tc .vmem S8x64x1024 .f32) (harg1 : arg1.IsWhole)
  (arg2 : Memref sig .tc .vmem S64x1024 .f32) (harg2 : arg2.IsWhole) (arg3 : Memref sig .tc .vmem S72x1024 .bf16) (harg3 : arg3.IsWhole)
  (arg4 : Memref sig .tc .vmem S8x64x1024 .f32) (harg4 : arg4.IsWhole) (arg5 : Memref sig .tc .vmem S8x1x1024 .i32) (harg5 : arg5.IsWhole)
  (arg6 : Memref sig .tc .vmem S1x1 .f32) (harg6 : arg6.IsWhole)
  (x0 : Vec F S8x64x1024 .f32) (x1 : Vec F S64x1024 .f32) (x2 : Vec F S72x1024 .bf16) (xo5 : Vec F S1x1 .f32)

/-- Image `k` of the block, as the body loads it. -/
abbrev im (x0 : Vec F S8x64x1024 .f32) (k : Nat) (h : ∀ a, (![k, 0, 0] : Fin 3 → Nat) a + S1x64x1024.size a ≤ S8x64x1024.size a) :
    Vec F S1x64x1024 .f32 :=
  View.ld x0 (Rect.unit (s := S8x64x1024) ![k, 0, 0] S1x64x1024.size h)

/-- The squared error of the eight images of the block. -/
def total (x0 : Vec F S8x64x1024 .f32) (x1 : Vec F S64x1024 .f32) (x2 : Vec F S72x1024 .bf16) : FVec F S1x1 .f32 :=
  (step x1 x2 (step x1 x2 (step x1 x2 (step x1 x2 (step x1 x2 (step x1 x2 (step x1 x2 (step x1 x2 (k0_pay9 (F := F)) (im x0 0 inb_S8x64x1024_S1x64x1024_0_0_0)) (im x0 1 inb_S8x64x1024_S1x64x1024_1_0_0)) (im x0 2 inb_S8x64x1024_S1x64x1024_2_0_0)) (im x0 3 inb_S8x64x1024_S1x64x1024_3_0_0)) (im x0 4 inb_S8x64x1024_S1x64x1024_4_0_0)) (im x0 5 inb_S8x64x1024_S1x64x1024_5_0_0)) (im x0 6 inb_S8x64x1024_S1x64x1024_6_0_0)) (im x0 7 inb_S8x64x1024_S1x64x1024_7_0_0))

theorem pieces_A_3 (hc0 : cond0_0 i) (hc1 : ¬cond0_1 i) :
    (kernelRun0_A c i arg1 harg1 arg2 harg2 arg3 harg3 arg4 harg4 arg5 harg5 arg6 harg6 hc0 hc1 x0 x1 x2).1
    = [⟨Rect.unit ![7, 0, 0] S1x64x1024.size inb_S8x64x1024_S1x64x1024_7_0_0, quant x1 x2 (im x0 7 inb_S8x64x1024_S1x64x1024_7_0_0)⟩,
      ⟨Rect.unit ![6, 0, 0] S1x64x1024.size inb_S8x64x1024_S1x64x1024_6_0_0, quant x1 x2 (im x0 6 inb_S8x64x1024_S1x64x1024_6_0_0)⟩,
      ⟨Rect.unit ![5, 0, 0] S1x64x1024.size inb_S8x64x1024_S1x64x1024_5_0_0, quant x1 x2 (im x0 5 inb_S8x64x1024_S1x64x1024_5_0_0)⟩,
      ⟨Rect.unit ![4, 0, 0] S1x64x1024.size inb_S8x64x1024_S1x64x1024_4_0_0, quant x1 x2 (im x0 4 inb_S8x64x1024_S1x64x1024_4_0_0)⟩,
      ⟨Rect.unit ![3, 0, 0] S1x64x1024.size inb_S8x64x1024_S1x64x1024_3_0_0, quant x1 x2 (im x0 3 inb_S8x64x1024_S1x64x1024_3_0_0)⟩,
      ⟨Rect.unit ![2, 0, 0] S1x64x1024.size inb_S8x64x1024_S1x64x1024_2_0_0, quant x1 x2 (im x0 2 inb_S8x64x1024_S1x64x1024_2_0_0)⟩,
      ⟨Rect.unit ![1, 0, 0] S1x64x1024.size inb_S8x64x1024_S1x64x1024_1_0_0, quant x1 x2 (im x0 1 inb_S8x64x1024_S1x64x1024_1_0_0)⟩,
      ⟨Rect.unit ![0, 0, 0] S1x64x1024.size inb_S8x64x1024_S1x64x1024_0_0_0, quant x1 x2 (im x0 0 inb_S8x64x1024_S1x64x1024_0_0_0)⟩] := by
  unfold kernelRun0_A
  dsimp only
  sl_unfold_words
  simp only [View.readAt_eq_ld, harg1.read_unread, harg2.read_unread, harg3.read_unread]
  simp only [View.ld_unit_zero (S := S64x1024) (off := ![0, 0]) (by decide), View.ld_unit_zero (S := S72x1024) (off := ![0, 0]) (by decide)]
  rfl

theorem pieces_A_4 (hc0 : cond0_0 i) (hc1 : ¬cond0_1 i) :
    (kernelRun0_A c i arg1 harg1 arg2 harg2 arg3 harg3 arg4 harg4 arg5 harg5 arg6 harg6 hc0 hc1 x0 x1 x2).2.1
    = [⟨Rect.unit ![7, 0, 0] S1x1x1024.size inb_S8x1x1024_S1x1x1024_7_0_0, index x1 x2 (im x0 7 inb_S8x64x1024_S1x64x1024_7_0_0)⟩,
      ⟨Rect.unit ![6, 0, 0] S1x1x1024.size inb_S8x1x1024_S1x1x1024_6_0_0, index x1 x2 (im x0 6 inb_S8x64x1024_S1x64x1024_6_0_0)⟩,
      ⟨Rect.unit ![5, 0, 0] S1x1x1024.size inb_S8x1x1024_S1x1x1024_5_0_0, index x1 x2 (im x0 5 inb_S8x64x1024_S1x64x1024_5_0_0)⟩,
      ⟨Rect.unit ![4, 0, 0] S1x1x1024.size inb_S8x1x1024_S1x1x1024_4_0_0, index x1 x2 (im x0 4 inb_S8x64x1024_S1x64x1024_4_0_0)⟩,
      ⟨Rect.unit ![3, 0, 0] S1x1x1024.size inb_S8x1x1024_S1x1x1024_3_0_0, index x1 x2 (im x0 3 inb_S8x64x1024_S1x64x1024_3_0_0)⟩,
      ⟨Rect.unit ![2, 0, 0] S1x1x1024.size inb_S8x1x1024_S1x1x1024_2_0_0, index x1 x2 (im x0 2 inb_S8x64x1024_S1x64x1024_2_0_0)⟩,
      ⟨Rect.unit ![1, 0, 0] S1x1x1024.size inb_S8x1x1024_S1x1x1024_1_0_0, index x1 x2 (im x0 1 inb_S8x64x1024_S1x64x1024_1_0_0)⟩,
      ⟨Rect.unit ![0, 0, 0] S1x1x1024.size inb_S8x1x1024_S1x1x1024_0_0_0, index x1 x2 (im x0 0 inb_S8x64x1024_S1x64x1024_0_0_0)⟩] := by
  unfold kernelRun0_A
  dsimp only
  sl_unfold_words
  simp only [View.readAt_eq_ld, harg1.read_unread, harg2.read_unread, harg3.read_unread]
  simp only [View.ld_unit_zero (S := S64x1024) (off := ![0, 0]) (by decide), View.ld_unit_zero (S := S72x1024) (off := ![0, 0]) (by decide)]
  rfl

theorem pieces_B_3 (hc0 : ¬cond0_0 i) (hc1 : cond0_1 i) :
    (kernelRun0_B c i arg1 harg1 arg2 harg2 arg3 harg3 arg4 harg4 arg5 harg5 arg6 harg6 hc0 hc1 x0 x1 x2 xo5).1
    = [⟨Rect.unit ![7, 0, 0] S1x64x1024.size inb_S8x64x1024_S1x64x1024_7_0_0, quant x1 x2 (im x0 7 inb_S8x64x1024_S1x64x1024_7_0_0)⟩,
      ⟨Rect.unit ![6, 0, 0] S1x64x1024.size inb_S8x64x1024_S1x64x1024_6_0_0, quant x1 x2 (im x0 6 inb_S8x64x1024_S1x64x1024_6_0_0)⟩,
      ⟨Rect.unit ![5, 0, 0] S1x64x1024.size inb_S8x64x1024_S1x64x1024_5_0_0, quant x1 x2 (im x0 5 inb_S8x64x1024_S1x64x1024_5_0_0)⟩,
      ⟨Rect.unit ![4, 0, 0] S1x64x1024.size inb_S8x64x1024_S1x64x1024_4_0_0, quant x1 x2 (im x0 4 inb_S8x64x1024_S1x64x1024_4_0_0)⟩,
      ⟨Rect.unit ![3, 0, 0] S1x64x1024.size inb_S8x64x1024_S1x64x1024_3_0_0, quant x1 x2 (im x0 3 inb_S8x64x1024_S1x64x1024_3_0_0)⟩,
      ⟨Rect.unit ![2, 0, 0] S1x64x1024.size inb_S8x64x1024_S1x64x1024_2_0_0, quant x1 x2 (im x0 2 inb_S8x64x1024_S1x64x1024_2_0_0)⟩,
      ⟨Rect.unit ![1, 0, 0] S1x64x1024.size inb_S8x64x1024_S1x64x1024_1_0_0, quant x1 x2 (im x0 1 inb_S8x64x1024_S1x64x1024_1_0_0)⟩,
      ⟨Rect.unit ![0, 0, 0] S1x64x1024.size inb_S8x64x1024_S1x64x1024_0_0_0, quant x1 x2 (im x0 0 inb_S8x64x1024_S1x64x1024_0_0_0)⟩] := by
  unfold kernelRun0_B
  dsimp only
  sl_unfold_words
  simp only [View.readAt_eq_ld, harg1.read_unread, harg2.read_unread, harg3.read_unread]
  simp only [View.ld_unit_zero (S := S64x1024) (off := ![0, 0]) (by decide), View.ld_unit_zero (S := S72x1024) (off := ![0, 0]) (by decide)]
  rfl

theorem pieces_B_4 (hc0 : ¬cond0_0 i) (hc1 : cond0_1 i) :
    (kernelRun0_B c i arg1 harg1 arg2 harg2 arg3 harg3 arg4 harg4 arg5 harg5 arg6 harg6 hc0 hc1 x0 x1 x2 xo5).2.1
    = [⟨Rect.unit ![7, 0, 0] S1x1x1024.size inb_S8x1x1024_S1x1x1024_7_0_0, index x1 x2 (im x0 7 inb_S8x64x1024_S1x64x1024_7_0_0)⟩,
      ⟨Rect.unit ![6, 0, 0] S1x1x1024.size inb_S8x1x1024_S1x1x1024_6_0_0, index x1 x2 (im x0 6 inb_S8x64x1024_S1x64x1024_6_0_0)⟩,
      ⟨Rect.unit ![5, 0, 0] S1x1x1024.size inb_S8x1x1024_S1x1x1024_5_0_0, index x1 x2 (im x0 5 inb_S8x64x1024_S1x64x1024_5_0_0)⟩,
      ⟨Rect.unit ![4, 0, 0] S1x1x1024.size inb_S8x1x1024_S1x1x1024_4_0_0, index x1 x2 (im x0 4 inb_S8x64x1024_S1x64x1024_4_0_0)⟩,
      ⟨Rect.unit ![3, 0, 0] S1x1x1024.size inb_S8x1x1024_S1x1x1024_3_0_0, index x1 x2 (im x0 3 inb_S8x64x1024_S1x64x1024_3_0_0)⟩,
      ⟨Rect.unit ![2, 0, 0] S1x1x1024.size inb_S8x1x1024_S1x1x1024_2_0_0, index x1 x2 (im x0 2 inb_S8x64x1024_S1x64x1024_2_0_0)⟩,
      ⟨Rect.unit ![1, 0, 0] S1x1x1024.size inb_S8x1x1024_S1x1x1024_1_0_0, index x1 x2 (im x0 1 inb_S8x64x1024_S1x64x1024_1_0_0)⟩,
      ⟨Rect.unit ![0, 0, 0] S1x1x1024.size inb_S8x1x1024_S1x1x1024_0_0_0, index x1 x2 (im x0 0 inb_S8x64x1024_S1x64x1024_0_0_0)⟩] := by
  unfold kernelRun0_B
  dsimp only
  sl_unfold_words
  simp only [View.readAt_eq_ld, harg1.read_unread, harg2.read_unread, harg3.read_unread]
  simp only [View.ld_unit_zero (S := S64x1024) (off := ![0, 0]) (by decide), View.ld_unit_zero (S := S72x1024) (off := ![0, 0]) (by decide)]
  rfl

theorem out0_A_5_eq (hc0 : cond0_0 i) (hc1 : ¬cond0_1 i) :
    out0_A_5 c i arg1 harg1 arg2 harg2 arg3 harg3 arg4 harg4 arg5 harg5 arg6 harg6 hc0 hc1 x0 x1 x2
    = acc k0_pay2 (total x0 x1 x2) := by
  unfold out0_A_5
  rw [View.read_writes_eq_canon _ _ _ (cover0_A_5 c i arg1 harg1 arg2 harg2 arg3 harg3 arg4 harg4 arg5 harg5 arg6 harg6 hc0 hc1 x0 x1 x2)]
  unfold kernelRun0_A
  dsimp only
  sl_unfold_words
  simp only [View.readAt_eq_ld, harg1.read_unread, harg2.read_unread, harg3.read_unread]
  simp only [View.ld_unit_zero (S := S64x1024) (off := ![0, 0]) (by decide), View.ld_unit_zero (S := S72x1024) (off := ![0, 0]) (by decide)]
  refine (View.canon_cons_unit_zero (S := S1x1) (off := ![0, 0]) (by decide) _ _ _).trans ?_
  simp only [View.readCov_unit_zero (S := S1x1) _ (off := ![0, 0]) (by decide)]
  rfl

theorem out0_B_5_eq (hc0 : ¬cond0_0 i) (hc1 : cond0_1 i) :
    out0_B_5 c i arg1 harg1 arg2 harg2 arg3 harg3 arg4 harg4 arg5 harg5 arg6 harg6 hc0 hc1 x0 x1 x2 xo5
    = k0_pay4 (acc xo5 (total x0 x1 x2)) := by
  unfold out0_B_5
  rw [View.read_writes_eq_canon _ _ _ (cover0_B_5 c i arg1 harg1 arg2 harg2 arg3 harg3 arg4 harg4 arg5 harg5 arg6 harg6 hc0 hc1 x0 x1 x2 xo5)]
  unfold kernelRun0_B
  dsimp only
  sl_unfold_words
  simp only [View.readAt_eq_ld, harg1.read_unread, harg2.read_unread, harg3.read_unread, harg6.read_unread]
  simp only [View.ld_unit_zero (S := S64x1024) (off := ![0, 0]) (by decide), View.ld_unit_zero (S := S72x1024) (off := ![0, 0]) (by decide)]
  refine (View.canon_cons_unit_zero (S := S1x1) (off := ![0, 0]) (by decide) _ _ _).trans ?_
  simp only [View.readCov_unit_zero (S := S1x1) _ (off := ![0, 0]) (by decide), View.ld_unit_zero (S := S1x1) (off := ![0, 0]) (by decide)]
  rfl

/-! ## The images by number -/

open Idealize.ShloMosaic.ValueIdx

/-- Image `k` of the block. -/
abbrev img (x0 : Vec F S8x64x1024 .f32) (k : Fin 8) : Vec F S1x64x1024 .f32 := fun z => x0 (ix3 k (z 1) (z 2))

theorem im_eq_img (k : Fin 8) (h) : im x0 k.val h = img x0 k := by
  funext z
  refine congrArg x0 (funext fun a => ?_)
  match a with
  | ⟨0, _⟩ =>
    have : (z 0).val < 1 := (z 0).isLt
    exact Fin.ext (show k.val + 1 * (z 0).val = k.val by omega)
  | ⟨1, _⟩ => exact Fin.ext (show 0 + 1 * (z 1).val = (z 1).val by omega)
  | ⟨2, _⟩ => exact Fin.ext (show 0 + 1 * (z 2).val = (z 2).val by omega)

/-- The quantised block: every image quantised. -/
def blockQ (x0 : Vec F S8x64x1024 .f32) (x1 : Vec F S64x1024 .f32) (x2 : Vec F S72x1024 .bf16) : Vec F S8x64x1024 .f32 :=
  fun y => quant x1 x2 (img x0 (y 0)) (ix3 0 (y 1) (y 2))

/-- The block's code numbers: every image's. -/
def blockI (x0 : Vec F S8x64x1024 .f32) (x1 : Vec F S64x1024 .f32) (x2 : Vec F S72x1024 .bf16) : Vec F S8x1x1024 .i32 :=
  fun y => index x1 x2 (img x0 (y 0)) (ix3 0 0 (y 2))

theorem quant_piece (k : Fin 8) (h) (z : S1x64x1024.Idx) : quant x1 x2 (im x0 k.val h) z
    = blockQ x0 x1 x2 ((Rect.unit (s := S8x64x1024) ![k.val, 0, 0] S1x64x1024.size h).emb z) := by
  have h0 : (Rect.unit (s := S8x64x1024) ![k.val, 0, 0] S1x64x1024.size h).emb z 0 = k := by
    have : (z 0).val < 1 := (z 0).isLt
    exact Fin.ext (show k.val + 1 * (z 0).val = k.val by omega)
  unfold blockQ
  rw [im_eq_img, h0]
  refine congrArg _ (funext fun a => ?_)
  match a with
  | ⟨0, _⟩ => exact Fin.ext (by have : (z 0).val < 1 := (z 0).isLt; show (z 0).val = 0; omega)
  | ⟨1, _⟩ => exact Fin.ext (show (z 1).val = 0 + 1 * (z 1).val by omega)
  | ⟨2, _⟩ => exact Fin.ext (show (z 2).val = 0 + 1 * (z 2).val by omega)

theorem index_piece (k : Fin 8) (h) (h') (z : S1x1x1024.Idx) : index x1 x2 (im x0 k.val h) z
    = blockI x0 x1 x2 ((Rect.unit (s := S8x1x1024) ![k.val, 0, 0] S1x1x1024.size h').emb z) := by
  have h0 : (Rect.unit (s := S8x1x1024) ![k.val, 0, 0] S1x1x1024.size h').emb z 0 = k := by
    have : (z 0).val < 1 := (z 0).isLt
    exact Fin.ext (show k.val + 1 * (z 0).val = k.val by omega)
  unfold blockI
  rw [im_eq_img, h0]
  refine congrArg _ (funext fun a => ?_)
  match a with
  | ⟨0, _⟩ => exact Fin.ext (by have : (z 0).val < 1 := (z 0).isLt; show (z 0).val = 0; omega)
  | ⟨1, _⟩ => exact Fin.ext (by have : (z 1).val < 1 := (z 1).isLt; show (z 1).val = 0; omega)
  | ⟨2, _⟩ => exact Fin.ext (show (z 2).val = 0 + 1 * (z 2).val by omega)

theorem out0_A_3_eq (hc0 : cond0_0 i) (hc1 : ¬cond0_1 i) :
    out0_A_3 c i arg1 harg1 arg2 harg2 arg3 harg3 arg4 harg4 arg5 harg5 arg6 harg6 hc0 hc1 x0 x1 x2
    = blockQ x0 x1 x2 := by
  unfold out0_A_3
  rw [View.read_writes_eq_canon _ _ _ (cover0_A_3 c i arg1 harg1 arg2 harg2 arg3 harg3 arg4 harg4 arg5 harg5 arg6 harg6 hc0 hc1 x0 x1 x2)]
  funext y
  refine View.canon_apply_of_pieces (blockQ x0 x1 x2) _ ?_ y (cover0_A_3 c i arg1 harg1 arg2 harg2 arg3 harg3 arg4 harg4 arg5 harg5 arg6 harg6 hc0 hc1 x0 x1 x2 y)
  rw [pieces_A_3]
  simp only [List.forall_mem_cons, List.not_mem_nil, false_imp_iff, implies_true, and_true]
  exact ⟨fun z => quant_piece x0 x1 x2 7 _ z, fun z => quant_piece x0 x1 x2 6 _ z, fun z => quant_piece x0 x1 x2 5 _ z, fun z => quant_piece x0 x1 x2 4 _ z, fun z => quant_piece x0 x1 x2 3 _ z, fun z => quant_piece x0 x1 x2 2 _ z, fun z => quant_piece x0 x1 x2 1 _ z, fun z => quant_piece x0 x1 x2 0 _ z⟩

theorem out0_A_4_eq (hc0 : cond0_0 i) (hc1 : ¬cond0_1 i) :
    out0_A_4 c i arg1 harg1 arg2 harg2 arg3 harg3 arg4 harg4 arg5 harg5 arg6 harg6 hc0 hc1 x0 x1 x2
    = blockI x0 x1 x2 := by
  unfold out0_A_4
  rw [View.read_writes_eq_canon _ _ _ (cover0_A_4 c i arg1 harg1 arg2 harg2 arg3 harg3 arg4 harg4 arg5 harg5 arg6 harg6 hc0 hc1 x0 x1 x2)]
  funext y
  refine View.canon_apply_of_pieces (blockI x0 x1 x2) _ ?_ y (cover0_A_4 c i arg1 harg1 arg2 harg2 arg3 harg3 arg4 harg4 arg5 harg5 arg6 harg6 hc0 hc1 x0 x1 x2 y)
  rw [pieces_A_4]
  simp only [List.forall_mem_cons, List.not_mem_nil, false_imp_iff, implies_true, and_true]
  exact ⟨fun z => index_piece x0 x1 x2 7 _ _ z, fun z => index_piece x0 x1 x2 6 _ _ z, fun z => index_piece x0 x1 x2 5 _ _ z, fun z => index_piece x0 x1 x2 4 _ _ z, fun z => index_piece x0 x1 x2 3 _ _ z, fun z => index_piece x0 x1 x2 2 _ _ z, fun z => index_piece x0 x1 x2 1 _ _ z, fun z => index_piece x0 x1 x2 0 _ _ z⟩

theorem out0_B_3_eq (hc0 : ¬cond0_0 i) (hc1 : cond0_1 i) :
    out0_B_3 c i arg1 harg1 arg2 harg2 arg3 harg3 arg4 harg4 arg5 harg5 arg6 harg6 hc0 hc1 x0 x1 x2 xo5
    = blockQ x0 x1 x2 := by
  unfold out0_B_3
  rw [View.read_writes_eq_canon _ _ _ (cover0_B_3 c i arg1 harg1 arg2 harg2 arg3 harg3 arg4 harg4 arg5 harg5 arg6 harg6 hc0 hc1 x0 x1 x2 xo5)]
  funext y
  refine View.canon_apply_of_pieces (blockQ x0 x1 x2) _ ?_ y (cover0_B_3 c i arg1 harg1 arg2 harg2 arg3 harg3 arg4 harg4 arg5 harg5 arg6 harg6 hc0 hc1 x0 x1 x2 xo5 y)
  rw [pieces_B_3]
  simp only [List.forall_mem_cons, List.not_mem_nil, false_imp_iff, implies_true, and_true]
  exact ⟨fun z => quant_piece x0 x1 x2 7 _ z, fun z => quant_piece x0 x1 x2 6 _ z, fun z => quant_piece x0 x1 x2 5 _ z, fun z => quant_piece x0 x1 x2 4 _ z, fun z => quant_piece x0 x1 x2 3 _ z, fun z => quant_piece x0 x1 x2 2 _ z, fun z => quant_piece x0 x1 x2 1 _ z, fun z => quant_piece x0 x1 x2 0 _ z⟩

theorem out0_B_4_eq (hc0 : ¬cond0_0 i) (hc1 : cond0_1 i) :
    out0_B_4 c i arg1 harg1 arg2 harg2 arg3 harg3 arg4 harg4 arg5 harg5 arg6 harg6 hc0 hc1 x0 x1 x2 xo5
    = blockI x0 x1 x2 := by
  unfold out0_B_4
  rw [View.read_writes_eq_canon _ _ _ (cover0_B_4 c i arg1 harg1 arg2 harg2 arg3 harg3 arg4 harg4 arg5 harg5 arg6 harg6 hc0 hc1 x0 x1 x2 xo5)]
  funext y
  refine View.canon_apply_of_pieces (blockI x0 x1 x2) _ ?_ y (cover0_B_4 c i arg1 harg1 arg2 harg2 arg3 harg3 arg4 harg4 arg5 harg5 arg6 harg6 hc0 hc1 x0 x1 x2 xo5 y)
  rw [pieces_B_4]
  simp only [List.forall_mem_cons, List.not_mem_nil, false_imp_iff, implies_true, and_true]
  exact ⟨fun z => index_piece x0 x1 x2 7 _ _ z, fun z => index_piece x0 x1 x2 6 _ _ z, fun z => index_piece x0 x1 x2 5 _ _ z, fun z => index_piece x0 x1 x2 4 _ _ z, fun z => index_piece x0 x1 x2 3 _ _ z, fun z => index_piece x0 x1 x2 2 _ _ z, fun z => index_piece x0 x1 x2 1 _ _ z, fun z => index_piece x0 x1 x2 0 _ _ z⟩

end Cert.KernelIdeal.Img

end
-- ==== Proof.KerHost.lean ====
/- What the operations before the kernel leave in its three arguments: the images, the codes, and the codes with three
   extra rows (ones, and the two base-32 digits of the code's number). -/
module

public import proofs.«01_k».proof.Proof.Gen.KernelIdeal.Launch
public import proofs.«01_k».proof.Proof.Gen.KernelIdeal.Frame
public import Idealize.ShloMosaic.Lib.StableHlo.Run

@[expose] public section

set_option maxRecDepth 65536

noncomputable section

namespace Cert.KernelIdeal.Host

open Idealize.ShloMosaic Idealize.ShloMosaic.TcCoe Idealize.ShloMosaic.StableHlo
open Cert.KernelIdeal Cert.KernelIdeal.Gen

variable {F : FTy → Type} [FloatOps F]

/-- The code numbers as floats. -/
def iota1 : FVec F S1024 .f32 := sitofp .f32 (iotaInDim S1024 32 0)

/-- The code numbers divided by 32 and rounded down. -/
def hi : FVec F S1024 .f32 :=
  Host.floor (Host.divf iota1 (broadcastInDim S1024 ![] bcast_S_S1024 (constant S_ .f32 0x42000000#32)))

/-- One float number at every position. -/
def splat (b : FVec F S_ .f32) : FVec F S1024 .f32 := broadcastInDim S1024 ![] bcast_S_S1024 b

/-- The remainder of a division with the divisor's sign. -/
def modulo (x : FVec F S1024 .f32) (y : FVec F S_ .f32) : FVec F S1024 .f32 :=
  select (andi (cmpi .ne (cmpf .olt (Host.remf x (splat y)) (splat (constant S_ .f32 0x00000000#32)))
      (broadcastInDim S1024 ![] bcast_S_S1024 (cmpf .olt y (constant S_ .f32 0x00000000#32))))
      (cmpf .une (Host.remf x (splat y)) (splat (constant S_ .f32 0x00000000#32))))
    (addf (Host.remf x (splat y)) (splat y)) (Host.remf x (splat y))

/-- One row replaced. -/
def put (x : FVec F S8x1024 .f32) (k : BitVec 32) (u : FVec F S1024 .f32) : FVec F S8x1024 .f32 :=
  Host.scatter scatter_S8x1024_S1_S1024_0_0_0_0 (fun _ b => b) x (broadcastInDim S1 ![] bcast_S_S1 (constantI S_ 32 k)) u

/-- The first two of the three rows set below the codes. -/
def rows2 : FVec F S8x1024 .f32 :=
  put (put (broadcastInDim S8x1024 ![] bcast_S_S8x1024 (constant S_ .f32 0x00000000#32)) 0#32
    (splat (constant S_ .f32 0x3F800000#32))) 1#32 hi

/-- The codes over eight further rows, of which `v` is the third. -/
def stack (e : FVec F S64x1024 .f32) (r : FVec F S8x1024 .f32) (v : FVec F S1024 .f32) : FVec F S72x1024 .bf16 :=
  truncf .bf16 (concatenate S72x1024 0 [⟨S64x1024, e⟩, ⟨S8x1024, put r 2#32 v⟩]
    concatenates_S64x1024_S8x1024_S72x1024_d0) bitsLt_bf16_f32

/-- The codes with their extra rows. -/
def aug (e : FVec F S64x1024 .f32) : FVec F S72x1024 .bf16 := stack e rows2 (modulo iota1 (constant S_ .f32 0x42000000#32))

/-- The images with their positions in one axis. -/
def images (x : FVec F S16x64x32x32 .f32) : FVec F S16x64x1024 .f32 := shapeCast S16x64x1024 x shapeCasts_S16x64x32x32_S16x64x1024

variable (V : Valuation τ sig (Elt F))

theorem ops0_arg1 : after hostOps0 V (main_arg1 : DevRef τ sig) = V (main_arg1 : DevRef τ sig) := by after_results_simp
theorem ops0_v1 : after hostOps0 V (main_v1 : DevRef τ sig) = (iota1 : FVec F S1024 .f32) := by after_results_simp; rfl
theorem ops0_cst3 : after hostOps0 V (main_cst_3 : DevRef τ sig) = (constant S_ .f32 0x42000000#32 : FVec F S_ .f32) := by after_results_simp
theorem ops0_v10 : after hostOps0 V (main_v10 : DevRef τ sig) = (rows2 : FVec F S8x1024 .f32) := by after_results_simp; rfl
theorem ops0_v0 : after hostOps0 V (main_v0 : DevRef τ sig) = images (V (main_arg0 : DevRef τ sig)) := by
  after_results_simp
  rfl
theorem ops1_v11 : after hostOps0_1 V (main_v11 : DevRef τ sig) = modulo (V (main_v1 : DevRef τ sig)) (V (main_cst_3 : DevRef τ sig)) := by
  after_results_simp
  rfl
theorem ops1_v10 : after hostOps0_1 V (main_v10 : DevRef τ sig) = V (main_v10 : DevRef τ sig) := by after_results_simp
theorem ops1_arg1 : after hostOps0_1 V (main_arg1 : DevRef τ sig) = V (main_arg1 : DevRef τ sig) := by after_results_simp
theorem ops1_v0 : after hostOps0_1 V (main_v0 : DevRef τ sig) = V (main_v0 : DevRef τ sig) := by after_results_simp
theorem ops2_v0 : after hostOps0_2 V (main_v0 : DevRef τ sig) = V (main_v0 : DevRef τ sig) := by after_results_simp
theorem ops2_arg1 : after hostOps0_2 V (main_arg1 : DevRef τ sig) = V (main_arg1 : DevRef τ sig) := by after_results_simp
theorem ops2_v13 : after (hostOps0_2.take 3) V (main_v13 : DevRef τ sig) = put (V (main_v10 : DevRef τ sig)) 2#32 (V (main_v11 : DevRef τ sig)) := by
  simp only [hostOps0_2, List.take]
  after_results_simp
  rfl
theorem ops2_arg1' : after (hostOps0_2.take 3) V (main_arg1 : DevRef τ sig) = V (main_arg1 : DevRef τ sig) := by
  simp only [hostOps0_2, List.take]
  after_results_simp
theorem ops2_end : after (hostOps0_2.drop 3) V (main_v15 : DevRef τ sig)
    = truncf .bf16 (concatenate S72x1024 0 [⟨S64x1024, (V (main_arg1 : DevRef τ sig) : FVec F S64x1024 .f32)⟩,
      ⟨S8x1024, (V (main_v13 : DevRef τ sig) : FVec F S8x1024 .f32)⟩] concatenates_S64x1024_S8x1024_S72x1024_d0) bitsLt_bf16_f32 := by
  simp only [hostOps0_2, List.drop]
  after_results_simp

theorem after_append (l₁ l₂ : List (HloOp τ sig (Elt F))) (V : Valuation τ sig (Elt F)) :
    after (l₁ ++ l₂) V = after l₂ (after l₁ V) := by
  induction l₁ generalizing V with
  | nil => rfl
  | cons a l ih => exact ih _

theorem ops2_v15 : after hostOps0_2 V (main_v15 : DevRef τ sig)
    = stack (V (main_arg1 : DevRef τ sig)) (V (main_v10 : DevRef τ sig)) (V (main_v11 : DevRef τ sig)) := by
  have h : (hostOps0_2 : List (HloOp τ sig (Elt F))) = hostOps0_2.take 3 ++ hostOps0_2.drop 3 := (List.take_append_drop 3 _).symm
  rw [h, after_append, ops2_end, ops2_arg1', ops2_v13]
  rfl

theorem split (V : Valuation τ sig (Elt F)) : after (List.flatten [hostOps0, hostOps0_1, hostOps0_2]) V
    = after hostOps0_2 (after hostOps0_1 (after hostOps0 V)) := by
  rw [List.flatten_cons, List.flatten_cons, List.flatten_cons, List.flatten_nil, List.append_nil]
  rw [after_append, after_append]

variable (m : (ℓ : Loc nD τ sig) → Buf (Elt F) ℓ) (c : Dev nD)

theorem V_v0 : V0 m c (main_v0 : DevRef τ sig) = images (m ((c.tc : Thread nD τ).loc main_arg0)) := by
  unfold V0
  rw [split, ops2_v0, ops1_v0, ops0_v0]

theorem V_arg1 : V0 m c (main_arg1 : DevRef τ sig) = m ((c.tc : Thread nD τ).loc main_arg1) := by
  unfold V0
  rw [split, ops2_arg1, ops1_arg1, ops0_arg1]

theorem V_v15 : V0 m c (main_v15 : DevRef τ sig) = aug (m ((c.tc : Thread nD τ).loc main_arg1)) := by
  unfold V0
  rw [split, ops2_v15, ops1_arg1, ops0_arg1, ops1_v10, ops0_v10, ops1_v11, ops0_v1, ops0_cst3]
  rfl

end Cert.KernelIdeal.Host

end
-- ==== Proof.KerRun.lean ====
/- The kernel's three results as functions of its arguments, at any float values. Each grid point takes one half of the
   sixteen images. The arrays of quantised images and of code numbers are assembled from the two halves. The third array
   is the one number that the last point leaves, which has taken in both halves. The host reshapes them after the kernel. -/
module

public import proofs.«01_k».proof.Proof.KerBlocks
public import proofs.«01_k».proof.Proof.KerHost
import Idealize.ShloMosaic.Lib.Pipeline.ValueKit

@[expose] public section

set_option maxRecDepth 65536

noncomputable section

namespace Cert.KernelIdeal.Img

open Idealize.ShloMosaic hiding ix1 ix2 ix3 ix4
open Idealize.ShloMosaic.TcCoe Idealize.ShloMosaic.StableHlo Idealize.ShloMosaic.Pipeline Idealize.SL.Sem
open Cert.KernelIdeal Cert.KernelIdeal.Gen
open Idealize.ShloMosaic.ValueIdx (ix1 ix2 ix3 ix4)

variable {F : FTy → Type} [FloatOps F]

/-- Image `b` of the array of images. -/
abbrev pick (x : FVec F S16x64x1024 .f32) (b : Fin 16) : FVec F S1x64x1024 .f32 := fun z => x (ix3 b (z 1) (z 2))

/-- The `t`-th half of the images. -/
abbrev half (x : FVec F S16x64x1024 .f32) (t : Fin 2) : FVec F S8x64x1024 .f32 :=
  fun y => x (ix3 (⟨t.val * 8 + (y 0).val, by have := t.isLt; have : (y 0).val < 8 := (y 0).isLt; omega⟩ : Fin 16) (y 1) (y 2))

/-- Every image quantised. -/
def allQ (x : FVec F S16x64x1024 .f32) (e : FVec F S64x1024 .f32) (a : FVec F S72x1024 .bf16) : FVec F S16x64x1024 .f32 :=
  fun i => quant e a (pick x (i 0)) (ix3 0 (i 1) (i 2))

/-- Every image's code numbers. -/
def allI (x : FVec F S16x64x1024 .f32) (e : FVec F S64x1024 .f32) (a : FVec F S72x1024 .bf16) : IVec S16x1x1024 32 :=
  fun i => index e a (pick x (i 0)) (ix3 0 0 (i 2))

/-- The one number left by the second point: both halves' sums, scaled. -/
def allD (x : FVec F S16x64x1024 .f32) (e : FVec F S64x1024 .f32) (a : FVec F S72x1024 .bf16) : FVec F S1x1 .f32 :=
  k0_pay4 (acc (acc k0_pay2 (total (half x 0) e a)) (total (half x 1) e a))

section Arrays

variable (m : (ℓ : Loc nD τ sig) → Buf (Elt F) ℓ) (c : Dev nD)

/-- The kernel's three operands as the host leaves them. -/
abbrev argX : FVec F S16x64x1024 .f32 := V m c main_v0
abbrev argE : FVec F S64x1024 .f32 := V m c main_arg1
abbrev argA : FVec F S72x1024 .bf16 := V m c main_v15

/-! ## The operands' blocks -/

theorem at0 : ∀ t : Fin cfg0.N, win0_0.index t (0 : Fin 3) = t.val ∧ win0_0.index t (1 : Fin 3) = 0 ∧ win0_0.index t (2 : Fin 3) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 3) = t.val ∧ win0_3.index t (1 : Fin 3) = 0 ∧ win0_3.index t (2 : Fin 3) = 0 :=
  (by decide +kernel : ∀ t : Fin grid0.N, _)
theorem at4 : ∀ t : Fin cfg0.N, win0_4.index t (0 : Fin 3) = t.val ∧ win0_4.index t (1 : Fin 3) = 0 ∧ win0_4.index t (2 : Fin 3) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)

theorem blk0 (t : Fin cfg0.N) : iblk m c 0 t = half (argX m c) (t.cast N_0) := by
  obtain ⟨e0, e1, e2⟩ := at0 t
  funext (y : S8x64x1024.Idx)
  show argX m c (((cfg0.win 0).blk t).view.emb y) = _
  refine congrArg (argX m c) (funext fun a => Fin.ext ?_)
  match a with
  | ⟨0, _⟩ => show win0_0.index t (0 : Fin 3) * 8 + 1 * (y 0).val = t.val * 8 + (y 0).val; omega
  | ⟨1, _⟩ => show win0_0.index t (1 : Fin 3) * 64 + 1 * (y 1).val = (y 1).val; omega
  | ⟨2, _⟩ => show win0_0.index t (2 : Fin 3) * 1024 + 1 * (y 2).val = (y 2).val; omega

theorem blk1 (t : Fin cfg0.N) : iblk m c 1 t = argE m c := by
  obtain ⟨e0, e1⟩ := at1 t
  funext (y : S64x1024.Idx)
  show argE m c (((cfg0.win 1).blk t).view.emb y) = _
  refine congrArg (argE m c) (funext fun a => Fin.ext ?_)
  match a with
  | ⟨0, _⟩ => show win0_1.index t (0 : Fin 2) * 64 + 1 * (y 0).val = (y 0).val; omega
  | ⟨1, _⟩ => show win0_1.index t (1 : Fin 2) * 1024 + 1 * (y 1).val = (y 1).val; omega

theorem blk2 (t : Fin cfg0.N) : iblk m c 2 t = argA m c := by
  obtain ⟨e0, e1⟩ := at2 t
  funext (y : S72x1024.Idx)
  show argA m c (((cfg0.win 2).blk t).view.emb y) = _
  refine congrArg (argA m c) (funext fun a => Fin.ext ?_)
  match a with
  | ⟨0, _⟩ => show win0_2.index t (0 : Fin 2) * 72 + 1 * (y 0).val = (y 0).val; omega
  | ⟨1, _⟩ => show win0_2.index t (1 : Fin 2) * 1024 + 1 * (y 1).val = (y 1).val; omega

/-! ## What each point leaves -/

theorem outs3 (t : Fin cfg0.N) :
    (outsAt0 m c t.val t.isLt).1 = blockQ (half (argX m c) (t.cast N_0)) (argE m c) (argA m c) := by
  by_cases h : t.val % 2 = 0
  · refine (congrArg Prod.fst (outsAt0_A m c t h (by omega))).trans ?_
    dsimp only
    rw [out0_A_3_eq, blk0, blk1, blk2]
  · refine (congrArg Prod.fst (outsAt0_B m c t h (by omega))).trans ?_
    dsimp only
    rw [out0_B_3_eq, blk0, blk1, blk2]

theorem outs4 (t : Fin cfg0.N) :
    (outsAt0 m c t.val t.isLt).2.1 = blockI (half (argX m c) (t.cast N_0)) (argE m c) (argA m c) := by
  by_cases h : t.val % 2 = 0
  · refine (congrArg (fun z => z.2.1) (outsAt0_A m c t h (by omega))).trans ?_
    dsimp only
    rw [out0_A_4_eq, blk0, blk1, blk2]
  · refine (congrArg (fun z => z.2.1) (outsAt0_B m c t h (by omega))).trans ?_
    dsimp only
    rw [out0_B_4_eq, blk0, blk1, blk2]

theorem outs5_first (t : Fin cfg0.N) (h : t.val % 2 = 0) :
    (outsAt0 m c t.val t.isLt).2.2 = acc k0_pay2 (total (half (argX m c) (t.cast N_0)) (argE m c) (argA m c)) := by
  refine (congrArg (fun z => z.2.2) (outsAt0_A m c t h (by omega))).trans ?_
  dsimp only
  rw [out0_A_5_eq, blk0, blk1, blk2]

theorem outs5_last (t : Fin cfg0.N) (h : t.val % 2 = 1) :
    (outsAt0 m c t.val t.isLt).2.2 = allD (argX m c) (argE m c) (argA m c) := by
  have hlt : t.val < 2 := lt_of_lt_of_eq t.isLt N_0
  have hp : t.val - 1 < cfg0.N := Nat.lt_of_le_of_lt (Nat.sub_le _ _) t.isLt
  refine (congrArg (fun z => z.2.2) (outsAt0_B m c t (by omega) h)).trans ?_
  dsimp only
  rw [out0_B_5_eq, blk0, blk1, blk2]
  have e := outs5_first m c ⟨t.val - 1, hp⟩ (by show (t.val - 1) % 2 = 0; omega)
  dsimp only at e
  rw [e]
  have e0 : Fin.cast N_0 (⟨t.val - 1, hp⟩ : Fin cfg0.N) = (0 : Fin 2) := Fin.ext (by show t.val - 1 = 0; omega)
  have e1 : Fin.cast N_0 t = (1 : Fin 2) := Fin.ext (by show t.val = 1; omega)
  rw [e0, e1]
  rfl

/-! ## The arrays after the run -/

theorem arr3 : (dats m 0 c).arrAt 3 cfg0.N = allQ (argX m c) (argE m c) (argA m c) := by
  refine (dats m 0 c).arrAt_eq_of_covers 3 _ (by decide +kernel) fun t hf y => ?_
  obtain ⟨e0, e1, e2⟩ := at3 t
  blk_simp
  rw [after0_3, outs3]
  generalize argX m c = X, argE m c = E, argA m c = A
  have hi : (win0_3.blk t).view.emb y = ix3 (⟨t.val * 8 + (y (0 : Fin 3)).val, by
      have := lt_of_lt_of_eq t.isLt N_0; have : (y (0 : Fin 3)).val < 8 := (y (0 : Fin 3)).isLt; omega⟩ : Fin 16) (y (1 : Fin 3)) (y (2 : Fin 3)) := by
    refine funext fun a => Fin.ext ?_
    match a with
    | ⟨0, _⟩ => show win0_3.index t (0 : Fin 3) * 8 + 1 * (y (0 : Fin 3)).val = t.val * 8 + (y (0 : Fin 3)).val; omega
    | ⟨1, _⟩ => show win0_3.index t (1 : Fin 3) * 64 + 1 * (y (1 : Fin 3)).val = (y (1 : Fin 3)).val; omega
    | ⟨2, _⟩ => show win0_3.index t (2 : Fin 3) * 1024 + 1 * (y (2 : Fin 3)).val = (y (2 : Fin 3)).val; omega
  exact (congrArg (allQ X E A) hi).symm

theorem arr4 : (dats m 0 c).arrAt 4 cfg0.N = allI (argX m c) (argE m c) (argA m c) := by
  refine (dats m 0 c).arrAt_eq_of_covers 4 _ (by decide +kernel) fun t hf y => ?_
  obtain ⟨e0, e1, e2⟩ := at4 t
  blk_simp
  rw [after0_4, outs4]
  generalize argX m c = X, argE m c = E, argA m c = A
  have hi : (win0_4.blk t).view.emb y = ix3 (⟨t.val * 8 + (y (0 : Fin 3)).val, by
      have := lt_of_lt_of_eq t.isLt N_0; have : (y (0 : Fin 3)).val < 8 := (y (0 : Fin 3)).isLt; omega⟩ : Fin 16) (y (1 : Fin 3)) (y (2 : Fin 3)) := by
    refine funext fun a => Fin.ext ?_
    match a with
    | ⟨0, _⟩ => show win0_4.index t (0 : Fin 3) * 8 + 1 * (y (0 : Fin 3)).val = t.val * 8 + (y (0 : Fin 3)).val; omega
    | ⟨1, _⟩ => show win0_4.index t (1 : Fin 3) * 1 + 1 * (y (1 : Fin 3)).val = (y (1 : Fin 3)).val; omega
    | ⟨2, _⟩ => show win0_4.index t (2 : Fin 3) * 1024 + 1 * (y (2 : Fin 3)).val = (y (2 : Fin 3)).val; omega
  exact (congrArg (allI X E A) hi).symm

theorem arr5 : (dats m 0 c).arrAt 5 cfg0.N = allD (argX m c) (argE m c) (argA m c) := by
  refine (dats m 0 c).arrAt_eq_of_covers 5 _ (by decide +kernel) fun t hf y => ?_
  obtain ⟨e0, e1⟩ := at5 t
  blk_simp
  rw [after0_5, outs5_last m c t ((flush0_5 t).mp hf)]
  generalize allD (argX m c) (argE m c) (argA m c) = D
  have hi : (win0_5.blk t).view.emb y = y := by
    refine funext fun a => Fin.ext ?_
    match a with
    | ⟨0, _⟩ => show win0_5.index t (0 : Fin 2) * 1 + 1 * (y (0 : Fin 2)).val = (y (0 : Fin 2)).val; omega
    | ⟨1, _⟩ => show win0_5.index t (1 : Fin 2) * 1 + 1 * (y (1 : Fin 2)).val = (y (1 : Fin 2)).val; omega
  exact (congrArg D hi).symm

end Arrays

end Cert.KernelIdeal.Img
end
-- ==== Proof.KerEnd.lean ====
/- The kernel's run from start to end, at any float values: the three result buffers hold the three arrays of the run,
   reshaped, and the arguments are as they were. -/
module

public import proofs.«01_k».proof.Proof.KerRun

@[expose] public section

set_option maxRecDepth 65536

noncomputable section

namespace Cert.KernelIdeal.Img

open Idealize.ShloMosaic Idealize.ShloMosaic.TcCoe Idealize.ShloMosaic.StableHlo Idealize.SL.Sem
open Cert.KernelIdeal Cert.KernelIdeal.Gen

variable {F : FTy → Type} [FloatOps F]

/-- The first result: the quantised images by row and column. -/
def outQ (x : FVec F S16x64x32x32 .f32) (e : FVec F S64x1024 .f32) : FVec F S16x64x32x32 .f32 :=
  shapeCast S16x64x32x32 (allQ (Host.images x) e (Host.aug e)) shapeCasts_S16x64x1024_S16x64x32x32

/-- The second result: the one number. -/
def outD (x : FVec F S16x64x32x32 .f32) (e : FVec F S64x1024 .f32) : FVec F S_ .f32 :=
  shapeCast S_ (allD (Host.images x) e (Host.aug e)) shapeCasts_S1x1_S_

/-- The third result: the code numbers by row and column. -/
def outI (x : FVec F S16x64x32x32 .f32) (e : FVec F S64x1024 .f32) : IVec S16x32x32 32 :=
  shapeCast S16x32x32 (allI (Host.images x) e (Host.aug e)) shapeCasts_S16x1x1024_S16x32x32

section Tail
variable (W : Valuation τ sig (Elt F))

theorem tail_v17 : after hostOps1 W (main_v17 : DevRef τ sig)
    = shapeCast S16x64x32x32 (W (main_v16_0 : DevRef τ sig) : FVec F S16x64x1024 .f32) shapeCasts_S16x64x1024_S16x64x32x32 := by
  after_results_simp
  rfl
theorem tail_v18 : after hostOps1 W (main_v18 : DevRef τ sig)
    = shapeCast S16x32x32 (W (main_v16_1 : DevRef τ sig) : IVec S16x1x1024 32) shapeCasts_S16x1x1024_S16x32x32 := by
  after_results_simp
  rfl
theorem tail_v19 : after hostOps1 W (main_v19 : DevRef τ sig)
    = shapeCast S_ (W (main_v16_2 : DevRef τ sig) : FVec F S1x1 .f32) shapeCasts_S1x1_S_ := by
  after_results_simp
  rfl

end Tail

variable (m : (ℓ : Loc nD τ sig) → Buf (Elt F) ℓ) (c : Dev nD)

theorem argX_eq : argX m c = Host.images (m ((c.tc : Thread nD τ).loc main_arg0)) := Host.V_v0 m c
theorem argE_eq : argE m c = m ((c.tc : Thread nD τ).loc main_arg1) := Host.V_arg1 m c
theorem argA_eq : argA m c = Host.aug (m ((c.tc : Thread nD τ).loc main_arg1)) := Host.V_v15 m c

theorem arrays_distinct : Function.Injective (Pipeline.arrRef spec0) := by decide

theorem end_v17 : Pipeline.afterTail₀ cfgs (dats m) 0 (V0 m) [hostOps1] c main_v17
    = outQ (m ((c.tc : Thread nD τ).loc main_arg0)) (m ((c.tc : Thread nD τ).loc main_arg1)) := by
  unfold Pipeline.afterTail₀
  refine (tail_v17 _).trans ?_
  unfold outQ
  refine congrArg (shapeCast S16x64x32x32 · _) ?_
  refine (Pipeline.withArrays_arr spec0 arrays_distinct c (V0 m c) (fun w => (dats m 0 c).arrAt w cfg0.N) 3).trans ?_
  rw [arr3, argX_eq, argE_eq, argA_eq]

theorem end_v18 : Pipeline.afterTail₀ cfgs (dats m) 0 (V0 m) [hostOps1] c main_v18
    = outI (m ((c.tc : Thread nD τ).loc main_arg0)) (m ((c.tc : Thread nD τ).loc main_arg1)) := by
  unfold Pipeline.afterTail₀
  refine (tail_v18 _).trans ?_
  unfold outI
  refine congrArg (shapeCast S16x32x32 · _) ?_
  refine (Pipeline.withArrays_arr spec0 arrays_distinct c (V0 m c) (fun w => (dats m 0 c).arrAt w cfg0.N) 4).trans ?_
  rw [arr4, argX_eq, argE_eq, argA_eq]

theorem end_v19 : Pipeline.afterTail₀ cfgs (dats m) 0 (V0 m) [hostOps1] c main_v19
    = outD (m ((c.tc : Thread nD τ).loc main_arg0)) (m ((c.tc : Thread nD τ).loc main_arg1)) := by
  unfold Pipeline.afterTail₀
  refine (tail_v19 _).trans ?_
  unfold outD
  refine congrArg (shapeCast S_ · _) ?_
  refine (Pipeline.withArrays_arr spec0 arrays_distinct c (V0 m c) (fun w => (dats m 0 c).arrAt w cfg0.N) 5).trans ?_
  rw [arr5, argX_eq, argE_eq, argA_eq]

/-- Every execution of the kernel's program ends with the three results and the arguments as they were. -/
theorem run_results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v17) = outQ (m ((c.tc : Thread nD τ).loc main_arg0)) (m ((c.tc : Thread nD τ).loc main_arg1))
      ∧ r.2.mem ((c.tc : Thread nD τ).loc main_v19) = outD (m ((c.tc : Thread nD τ).loc main_arg0)) (m ((c.tc : Thread nD τ).loc main_arg1))
      ∧ r.2.mem ((c.tc : Thread nD τ).loc main_v18) = outI (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_, ?_, ?_⟩) (run_main m ρ)
  · exact ((h c).2 main_v17 (Pipeline.mem_restRefs_of main_v17 (by decide) (by decide))).trans (end_v17 m c)
  · exact ((h c).2 main_v19 (Pipeline.mem_restRefs_of main_v19 (by decide) (by decide))).trans (end_v19 m c)
  · exact ((h c).2 main_v18 (Pipeline.mem_restRefs_of main_v18 (by decide) (by decide))).trans (end_v18 m c)
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))

end Cert.KernelIdeal.Img

end
-- ==== Proof.KerPoint.lean ====
/- The kernel's body on one image at the exact values: with one nearest code per token, the product with the one-hot
   matrix reads that code's column. -/
module

public import proofs.«01_k».proof.Proof.KerImg
public import proofs.«01_k».proof.Proof.Spec
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.PureOps.Ideal.Laws

@[expose] public section

noncomputable section

namespace Cert.KernelIdeal.Img

open Idealize.ShloMosaic Idealize.ShloMosaic.ValueIdx Cert.KernelIdeal Cert.KernelIdeal.Gen Cert.Spec
open scoped BigOperators

/-- A row-range slice of the 72 rows, read at an index. -/
theorem slice_apply {n : Nat} (o : Nat) (v : FVec Ideal S72x1024 .f32) (h : S72x1024.Slices ![o, 0] ⟨2, ![n, 1024]⟩)
    (d : Fin n) (p : Fin 1024) (r : Fin 72) (hr : r.val = o + d.val) :
    extractStridedSlice ⟨2, ![n, 1024]⟩ ![o, 0] v h (ix2 d p) = v (ix2 r p) :=
  extractStridedSlice_apply ![o, 0] v h (ix2 d p) (ix2 r p) (fun ax => match ax with
    | ⟨0, _⟩ => hr | ⟨1, _⟩ => (Nat.zero_add _).symm)

/-- The distances of every code to every token. -/
def scores (e : Vec Ideal S64x1024 .f32) (x : Vec Ideal S1x64x1024 .f32) : FVec Ideal S1024x1024 .f32 :=
  addf (addf (broadcastTo S1024x1024 (shapeCast S1x1024 (multiReduction .add [0] S1024 (mulf (k0_pay10 x) (k0_pay10 x)) 0x00000000#32
      reduces_S64x1024_S1024 (.inl rfl) rfl) shapeCasts_S1024_S1x1024) broadcasts_S1x1024_S1024x1024)
    (matmul dot_S1024x64_S64x1024_S1024x1024_1_0_0_1_n_n none (k0_pay8 e) (k0_pay10 x) (constant S1024x1024 .f32 0x00000000#32)))
    (broadcastTo S1024x1024 (k0_pay7 e) broadcasts_S1024x1_S1024x1024)

/-- The least distance of each token. -/
def least (s : FVec Ideal S1024x1024 .f32) : FVec Ideal S1024 .f32 :=
  multiReduction .minimumf [0] S1024 s 0x7F800000#32 reduces_S1024x1024_S1024 (.inl rfl) rfl

/-- One where a code attains the token's least distance, zero elsewhere. -/
def onehot (s : FVec Ideal S1024x1024 .f32) : FVec Ideal S1024x1024 .bf16 :=
  truncf .bf16 (sitofp .f32 (extui 32 (cmpf .oeq s (broadcastTo S1024x1024 (shapeCast S1x1024 (least s) shapeCasts_S1024_S1x1024)
    broadcasts_S1x1024_S1024x1024)) natLt_1_32)) bitsLt_bf16_f32

theorem pay11_eq (e : Vec Ideal S64x1024 .f32) (a : Vec Ideal S72x1024 .bf16) (x : Vec Ideal S1x64x1024 .f32) :
    k0_pay11 e a x = matmul dot_S72x1024_S1024x1024_S72x1024_1_0_0_1_n_n none (k0_pay5 a) (onehot (scores e x))
      (constant S72x1024 .f32 0x00000000#32) := rfl

theorem pay10_apply (x : Vec Ideal S1x64x1024 .f32) (d : Fin 64) (p : Fin 1024) :
    k0_pay10 x (ix2 d p) = x (ix3 0 d p) := shapeCast_1ab_ab_apply x _ d p

theorem pay6_apply (e : Vec Ideal S64x1024 .f32) (k : Fin 1024) (d : Fin 64) :
    k0_pay6 e (ix2 k d) = e (ix2 d k) := transpose_ix2_apply e _ k d

theorem least_apply (s : FVec Ideal S1024x1024 .f32) (p κ : Fin 1024) (h : ∀ k, s (ix2 κ p) ≤ s (ix2 k p)) :
    least s (ix1 p) = s (ix2 κ p) := by
  have hl : ∀ k : Fin 1024, reduces_S1024x1024_S1024.lift (ix1 p) k = (ix2 k p : S1024x1024.Idx) := fun k => by
    funext b; match b with | ⟨0, _⟩ => rfl | ⟨1, _⟩ => rfl
  unfold least
  refine (multiReduction_minimumf_eq_fold s _ _ _ _ _).trans ((Shape.Reduces.fold_filter_drop_single _ _ _ _ _).trans ?_)
  apply le_antisymm
  · refine (Finset.fold_min_le _).2 (Or.inr ⟨κ, Finset.mem_univ _, ?_⟩)
    exact le_of_eq (congrArg s (hl κ))
  · refine (Finset.le_fold_min _).2 ⟨?_, fun k _ => ?_⟩
    · have : (FloatOps.ofBits .f32 0x7F800000#32 : Ideal .f32) = ⊤ := by
        show Ideal.ofBits .f32 0x7F800000#32 = ⊤
        simp [Ideal.ofBits, Ideal.ieee]
      rw [this]; exact le_top
    · exact (h k).trans (le_of_eq (congrArg s (hl k)).symm)

theorem onehot_apply (s : FVec Ideal S1024x1024 .f32) (p κ : Fin 1024) (h : ∀ k, k ≠ κ → s (ix2 κ p) < s (ix2 k p)) (k : Fin 1024) :
    onehot s (ix2 k p) = if k = κ then (1 : EReal) else 0 := by
  have hb : broadcastTo S1024x1024 (shapeCast S1x1024 (least s) shapeCasts_S1024_S1x1024) broadcasts_S1x1024_S1024x1024 (ix2 k p)
      = s (ix2 κ p) := by
    refine (broadcastTo_1b_ab_apply _ _ k p).trans ((shapeCast_a_1a_apply _ _ _ _).trans (least_apply s p κ fun k => ?_))
    by_cases hk : k = κ
    · rw [hk]
    · exact (h k hk).le
  have e1 : onehot s (ix2 k p) = ((((BitVec.ofBool (decide (s (ix2 k p) = s (ix2 κ p)))).setWidth 32).toInt : ℝ) : EReal) := by
    rw [← hb]; rfl
  rw [e1]
  by_cases hk : k = κ
  · subst hk; simp
  · rw [decide_eq_false (h k hk).ne', if_neg hk]; simp

theorem pay11_apply (e : Vec Ideal S64x1024 .f32) (a : Vec Ideal S72x1024 .bf16) (x : Vec Ideal S1x64x1024 .f32) (p κ : Fin 1024)
    (h : ∀ k, k ≠ κ → scores e x (ix2 κ p) < scores e x (ix2 k p)) (r : Fin 72) :
    k0_pay11 e a x (ix2 r p) = a (ix2 r κ) := by
  rw [pay11_eq]
  refine (Ideal.matmul_plain_apply none (k0_pay5 a) (onehot (scores e x)) _ r p).trans ?_
  have h5 : k0_pay5 a = a := funext fun i => by
    refine shapeCast_apply a _ i i rfl
  rw [h5]
  have h0 : constant (F := Ideal) S72x1024 .f32 0x00000000#32 (ix2 r p) = (0 : EReal) := by
    show Ideal.ofBits .f32 0x00000000#32 = 0
    simp
  rw [h0, zero_add, Finset.sum_eq_single κ]
  · rw [onehot_apply _ p κ h, if_pos rfl, mul_one]
  · intro k _ hk; rw [onehot_apply _ p κ h, if_neg hk, mul_zero]
  · intro hk; exact absurd (Finset.mem_univ _) hk

section
variable (E : Fin 64 → Fin 1024 → ℝ) (X : Fin 64 → Fin 1024 → ℝ) (e : Vec Ideal S64x1024 .f32) (x : Vec Ideal S1x64x1024 .f32)
  (he : ∀ d k, e (ix2 d k) = ((E d k : ℝ) : EReal)) (hx : ∀ d p, x (ix3 0 d p) = ((X d p : ℝ) : EReal))
include he hx

theorem scores_apply (k p : Fin 1024) : scores e x (ix2 k p) = ((dist (fun d => X d p) E k : ℝ) : EReal) := by
  have l0 : ∀ d : Fin 64, reduces_S64x1024_S1024.lift (ix1 p) d = (ix2 d p : S64x1024.Idx) := fun d => by
    funext b; match b with | ⟨0, _⟩ => rfl | ⟨1, _⟩ => rfl
  have l1 : ∀ d : Fin 64, reduces_S1024x64_S1024.lift (ix1 k) d = (ix2 k d : S1024x64.Idx) := fun d => by
    funext b; match b with | ⟨0, _⟩ => rfl | ⟨1, _⟩ => rfl
  have t1 : broadcastTo S1024x1024 (shapeCast S1x1024 (multiReduction .add [0] S1024 (mulf (k0_pay10 x) (k0_pay10 x)) 0x00000000#32
      reduces_S64x1024_S1024 (.inl rfl) rfl) shapeCasts_S1024_S1x1024) broadcasts_S1x1024_S1024x1024 (ix2 k p)
      = ((∑ d, X d p * X d p : ℝ) : EReal) := by
    refine (broadcastTo_1b_ab_apply _ _ k p).trans ((shapeCast_a_1a_apply _ _ _ _).trans
      ((Ideal.multiReduction_add_single _ _ _ _ _ _).trans ?_))
    rw [coe_sum]
    refine Finset.sum_congr rfl fun (d : Fin 64) _ => ?_
    refine (congrArg (mulf (k0_pay10 x) (k0_pay10 x)) (l0 d)).trans ?_
    refine (mulf_apply _ _ _).trans ?_
    rw [pay10_apply, hx, EReal.coe_mul]
  have t3 : broadcastTo S1024x1024 (k0_pay7 e) broadcasts_S1024x1_S1024x1024 (ix2 k p) = ((∑ d, E d k * E d k : ℝ) : EReal) := by
    refine (broadcastTo_apply (k0_pay7 e) _ (ix2 k p) (ix2 k 0) (fun ax => match ax with | ⟨0, _⟩ => rfl | ⟨1, _⟩ => rfl)).trans
      ((shapeCast_a_a1_apply _ _ _ _).trans ((Ideal.multiReduction_add_single _ _ _ _ _ _).trans ?_))
    rw [coe_sum]
    refine Finset.sum_congr rfl fun (d : Fin 64) _ => ?_
    refine (congrArg (mulf (k0_pay6 e) (k0_pay6 e)) (l1 d)).trans ?_
    refine (mulf_apply _ _ _).trans ?_
    rw [pay6_apply, he, EReal.coe_mul]
  have t2 : matmul dot_S1024x64_S64x1024_S1024x1024_1_0_0_1_n_n none (k0_pay8 e) (k0_pay10 x)
      (constant (F := Ideal) S1024x1024 .f32 0x00000000#32) (ix2 k p) = ((∑ d, E d k * (-2) * X d p : ℝ) : EReal) := by
    refine (Ideal.matmul_plain_apply none (k0_pay8 e) (k0_pay10 x) _ k p).trans ?_
    have h0 : constant (F := Ideal) S1024x1024 .f32 0x00000000#32 (ix2 k p) = (0 : EReal) := by
      show Ideal.ofBits .f32 0x00000000#32 = 0
      simp
    rw [h0, zero_add, coe_sum]
    refine Finset.sum_congr rfl fun d _ => ?_
    have h8 : k0_pay8 e (ix2 k d) = e (ix2 d k) * ((-2 : ℝ) : EReal) := by
      refine (mulf_apply (k0_pay6 e) _ _).trans ?_
      rw [pay6_apply]
      refine congrArg (e (ix2 d k) * ·) ?_
      show Ideal.ofBits .f32 0xC0000000#32 = _
      simp [Ideal.ofBits, Ideal.ieee, -EReal.coe_mul]; norm_num
    rw [h8, pay10_apply, he, hx, EReal.coe_mul, EReal.coe_mul]
  unfold scores
  rw [addf_apply, addf_apply, t1, t2, t3, ← EReal.coe_add, ← EReal.coe_add, dist_eq (fun d => X d p)]

variable (a : Vec Ideal S72x1024 .bf16) (κ : Fin 1024 → Fin 1024) (hκ : ∀ p, Nearest (fun d => X d p) E (κ p))
include hκ

theorem pay11_nearest (r : Fin 72) (p : Fin 1024) : k0_pay11 e a x (ix2 r p) = a (ix2 r (κ p)) :=
  pay11_apply e a x p (κ p) (fun k hk => by
    rw [scores_apply E X e x he hx, scores_apply E X e x he hx]
    exact EReal.coe_lt_coe_iff.2 (hκ p k hk)) r

variable (ha0 : ∀ (d : Fin 64) k, a (ix2 (d.castLE rows_le) k) = ((E d k : ℝ) : EReal)) (ha1 : ∀ k, a (ix2 64 k) = 1)
include ha1

theorem pay12_apply (p : Fin 1024) : k0_pay12 e a x (ix2 0 p) = 1 := by
  refine (divf_apply _ _ _).trans ?_
  refine (congrArg (Ideal.div (Ideal.ofBits .f32 0x3F800000#32)) ((slice_apply 64 (k0_pay11 e a x) slices_S72x1024_o64_0_S1x1024 0 p 64 rfl).trans
    ((pay11_nearest E X e x he hx a κ hκ _ _).trans (ha1 _)))).trans ?_
  show Ideal.div (Ideal.ofBits .f32 0x3F800000#32) 1 = 1
  have : Ideal.ofBits .f32 0x3F800000#32 = ((1 : ℝ) : EReal) := by
    simp [Ideal.ofBits, Ideal.ieee, -EReal.coe_mul]; norm_num
  rw [this, EReal.coe_one]
  unfold Ideal.div
  simp

include ha0

theorem pay15_apply (d : Fin 64) (p : Fin 1024) :
    k0_pay15 (k0_pay12 e a x) (k0_pay14 e a x) (ix2 d p) = ((E d (κ p) : ℝ) : EReal) := by
  refine (mulf_apply _ _ _).trans ?_
  rw [broadcastTo_1b_ab_apply, pay12_apply E X e x he hx a κ hκ ha1, mul_one]
  refine (slice_apply 0 (k0_pay11 e a x) slices_S72x1024_o0_0_S64x1024 d p (d.castLE rows_le) (Nat.zero_add _).symm).trans ?_
  rw [pay11_nearest E X e x he hx a κ hκ, ha0]

theorem quant_apply (d : Fin 64) (p : Fin 1024) : quant e a x (ix3 0 d p) = ((E d (κ p) : ℝ) : EReal) :=
  (shapeCast_ab_1ab_apply _ _ 0 d p).trans (pay15_apply E X e x he hx a κ hκ ha0 ha1 d p)

theorem step_apply (s : FVec Ideal S1x1 .f32) (σ : ℝ) (hs : s (ix2 0 0) = ((σ : ℝ) : EReal)) : step e a s x (ix2 0 0)
    = ((σ + ∑ d, ∑ p, (E d (κ p) - X d p) * (E d (κ p) - X d p) : ℝ) : EReal) := by
  refine (addf_apply s _ _).trans ?_
  rw [hs, EReal.coe_add]
  refine congrArg (((σ : ℝ) : EReal) + ·) ?_
  refine (shapeCast_apply (s := S1) (t := S1x1x1) _ shapeCasts_S1_S1x1x1 _ (ix1 0) rfl).trans
    ((Ideal.multiReduction_add_total _ _ _ (by decide) _ _ _).trans ?_)
  have key : ∀ (d : Fin 64) (p : Fin 1024), mulf (subf (k0_pay15 (k0_pay12 e a x) (k0_pay14 e a x)) (k0_pay10 x))
      (subf (k0_pay15 (k0_pay12 e a x) (k0_pay14 e a x)) (k0_pay10 x)) (ix2 d p)
      = (((E d (κ p) - X d p) * (E d (κ p) - X d p) : ℝ) : EReal) := fun d p => by
    rw [mulf_apply, subf_apply, pay15_apply E X e x he hx a κ hκ ha0 ha1, pay10_apply, hx, ← EReal.coe_sub, ← EReal.coe_mul]
  refine (Equiv.sum_comp (Shape.reshapeEquiv shapeCasts_S64x1024_S1x64x1024) _).trans ((sum_idx2 _).trans ?_)
  rw [coe_sum]
  refine Finset.sum_congr rfl fun d _ => ?_
  rw [coe_sum]
  exact Finset.sum_congr rfl fun p _ => key d p

variable (ha2 : ∀ k : Fin 1024, a (ix2 65 k) = (((k.val / 32 : ℕ) : ℝ) : EReal)) (ha3 : ∀ k : Fin 1024, a (ix2 66 k) = (((k.val % 32 : ℕ) : ℝ) : EReal))
include ha2 ha3

omit ha0 in
theorem index_apply (p : Fin 1024) : index e a x (ix3 0 0 p) = BitVec.ofNat 32 (κ p).val := by
  refine (shapeCast_apply (s := S1024) (t := S1x1x1024) (k0_pay13 e a x) shapeCasts_S1024_S1x1x1024 (ix3 0 0 p) (ix1 p) (by
    rw [Shape.rowMajor_val_one, Shape.rowMajor_val_three]; simp)).trans ?_
  unfold k0_pay13
  refine (shapeCast_apply (s := S1x1024) (t := S1024) _ shapeCasts_S1x1024_S1024 (ix1 p) (ix2 0 p) (by
    rw [Shape.rowMajor_val_one, Shape.rowMajor_val_two]; simp)).trans ?_
  have e1 : ∀ (r : Nat) (h : S72x1024.Slices ![r, 0] S1x1024) (r' : Fin 72), r'.val = r →
      extractStridedSlice S1x1024 ![r, 0] (k0_pay11 e a x) h (ix2 0 p) = a (ix2 r' (κ p)) := fun r h r' hr =>
    (slice_apply r (k0_pay11 e a x) h 0 p r' hr).trans (pay11_nearest E X e x he hx a κ hκ _ _)
  have c32 : Ideal.ofBits .f32 0x42000000#32 = ((32 : ℝ) : EReal) := by
    simp [Ideal.ofBits, Ideal.ieee, -EReal.coe_mul]; norm_num
  have c5 : Ideal.ofBits .f32 0x3F000000#32 = ((1/2 : ℝ) : EReal) := by
    simp [Ideal.ofBits, Ideal.ieee, -EReal.coe_mul]; norm_num
  have ev : addf (mulf (addf (mulf (extractStridedSlice S1x1024 ![65, 0] (k0_pay11 e a x) slices_S72x1024_o65_0_S1x1024)
      (broadcast S1x1024 (Scalar.ofBits .f32 0x42000000#32)))
      (extractStridedSlice S1x1024 ![66, 0] (k0_pay11 e a x) slices_S72x1024_o66_0_S1x1024)) (k0_pay12 e a x))
      (broadcast S1x1024 (Scalar.ofBits .f32 0x3F000000#32)) (ix2 0 p) = ((((κ p).val : ℝ) + 1/2 : ℝ) : EReal) := by
    rw [addf_apply, mulf_apply, addf_apply, mulf_apply, pay12_apply E X e x he hx a κ hκ ha1, e1 65 _ 65 rfl, e1 66 _ 66 rfl, ha2, ha3]
    rw [mul_one]
    refine (congrArg₂ (fun u v => ((((κ p).val / 32 : ℕ) : ℝ) : EReal) * u + ((((κ p).val % 32 : ℕ) : ℝ) : EReal) + v) c32 c5).trans ?_
    rw [← EReal.coe_mul, ← EReal.coe_add, ← EReal.coe_add]
    congr 2
    have := Nat.div_add_mod (κ p).val 32
    have h : ((32 * ((κ p).val / 32) + (κ p).val % 32 : ℕ) : ℝ) = ((κ p).val : ℝ) := by rw [this]
    push_cast at h ⊢
    linarith
  refine (congrArg (fun z : Ideal .f32 => FloatOps.fptosi 32 z) ev).trans ?_
  show Ideal.fptosi 32 _ = _
  have hf : ⌊((κ p).val : ℝ) + 1/2⌋ = ((κ p).val : ℤ) := by
    rw [Int.floor_eq_iff]
    constructor <;> push_cast <;> linarith
  have h0 : (0 : ℝ) ≤ ((κ p).val : ℝ) + 1/2 := by positivity
  rw [Ideal.fptosi, Ideal.toIntClamped_coe, if_pos h0, hf]
  have := (κ p).isLt
  rw [min_eq_right (by norm_num; omega), max_eq_right (by norm_num)]
  exact BitVec.ofInt_natCast _ _
end

end Cert.KernelIdeal.Img

end
-- ==== Proof.KerRows.lean ====
/- The codes with their extra rows at the exact values, read row by row. -/
module

public import proofs.«01_k».proof.Proof.KerHost
public import proofs.«01_k».proof.Proof.Spec
public import Idealize.ShloMosaic.Lib.ValueIdx
public import Idealize.ShloMosaic.Lib.IdealHost
public import Idealize.ShloMosaic.Lib.Pipeline.Value
public import Idealize.ShloMosaic.Lib.Routing.OpsSet

@[expose] public section

noncomputable section

namespace Cert.KernelIdeal.Host

open Idealize.ShloMosaic Idealize.ShloMosaic.ValueIdx Cert.KernelIdeal Cert.KernelIdeal.Gen

/-- Element `p` of the row lands in the row the start index names, at `p`. -/
theorem lands (b : BitVec 32) (k : Fin 8) (hb : b.toInt = (k.val : Int)) (p' p : Fin 1024) (r : Fin 8) :
    scatter_S8x1024_S1_S1024_0_0_0_0.resultIdx? (ix1 p') (broadcastInDim S1 ![] bcast_S_S1 (constantI S_ 32 b)) = some (ix2 r p)
      ↔ p' = p ∧ r = k := by
  have hs0 : scatter_S8x1024_S1_S1024_0_0_0_0.start (ix1 p') (broadcastInDim S1 ![] bcast_S_S1 (constantI S_ 32 b)) 0 = (k.val : Int) := hb
  have hs1 : scatter_S8x1024_S1_S1024_0_0_0_0.start (ix1 p') (broadcastInDim S1 ![] bcast_S_S1 (constantI S_ 32 b)) 1 = 0 := rfl
  have hw0 : scatter_S8x1024_S1_S1024_0_0_0_0.window (ix1 p') 0 = 0 := rfl
  have hw1 : scatter_S8x1024_S1_S1024_0_0_0_0.window (ix1 p') 1 = p'.val := rfl
  rw [Routing.resultIdx?_eq_some]
  constructor
  · intro h
    have h0 := h 0
    have h1 := h 1
    rw [hs0, hw0] at h0
    rw [hs1, hw1] at h1
    exact ⟨Fin.ext (by simpa using h1), Fin.ext (by simpa using h0.symm)⟩
  · rintro ⟨rfl, rfl⟩ a
    match a with
    | ⟨0, _⟩ => exact (congrArg₂ (fun (u : Int) (v : ℕ) => u + (v : Int)) hs0 hw0).trans (by simp)
    | ⟨1, _⟩ => exact (congrArg₂ (fun (u : Int) (v : ℕ) => u + (v : Int)) hs1 hw1).trans (by simp)

theorem put_hit (x : FVec Ideal S8x1024 .f32) (b : BitVec 32) (u : FVec Ideal S1024 .f32) (k : Fin 8) (hb : b.toInt = (k.val : Int))
    (p : Fin 1024) : put x b u (ix2 k p) = u (ix1 p) :=
  Routing.scatter_set_hit _ _ _ _ _ _ (fun q hq => by
    rw [eq_ix1 q] at hq ⊢
    exact congrArg (fun z => u (ix1 z)) ((lands b k hb _ p k).1 hq).1) (ix1 p) ((lands b k hb p p k).2 ⟨rfl, rfl⟩)

theorem put_miss (x : FVec Ideal S8x1024 .f32) (b : BitVec 32) (u : FVec Ideal S1024 .f32) (k : Fin 8) (hb : b.toInt = (k.val : Int))
    (r : Fin 8) (hr : r ≠ k) (p : Fin 1024) : put x b u (ix2 r p) = x (ix2 r p) :=
  Routing.scatter_set_miss _ _ _ _ _ (fun q hq => by
    rw [eq_ix1 q] at hq
    exact hr ((lands b k hb _ p r).1 hq).2)

theorem bits32 : Ideal.ofBits .f32 0x42000000#32 = ((32 : ℝ) : EReal) := by
  simp [Ideal.ofBits, Ideal.ieee, -EReal.coe_mul]; norm_num

theorem bits1 : Ideal.ofBits .f32 0x3F800000#32 = 1 := by
  have : Ideal.ofBits .f32 0x3F800000#32 = ((1 : ℝ) : EReal) := by
    simp [Ideal.ofBits, Ideal.ieee, -EReal.coe_mul]; norm_num
  rw [this, EReal.coe_one]

theorem iota1_apply (k : Fin 1024) : iota1 (F := Ideal) (ix1 k) = ((k.val : ℝ) : EReal) := by
  show (((BitVec.ofNat 32 k.val).toInt : ℝ) : EReal) = _
  have h : (BitVec.ofNat 32 k.val).toInt = (k.val : Int) := by
    have := k.isLt
    rw [BitVec.toInt_eq_toNat_of_lt] <;> simp [BitVec.toNat_ofNat] <;> omega
  rw [h, Int.cast_natCast]

theorem floor32 (k : ℕ) : ⌊(k : ℝ) / 32⌋ = ((k / 32 : ℕ) : ℤ) := by
  have := Nat.div_add_mod k 32
  have hl := Nat.mod_lt k (by decide : 32 > 0)
  have h : ((32 * (k / 32) + k % 32 : ℕ) : ℝ) = (k : ℝ) := by rw [this]
  have hm : ((k % 32 : ℕ) : ℝ) < 32 := by exact_mod_cast hl
  have hm0 : (0 : ℝ) ≤ ((k % 32 : ℕ) : ℝ) := Nat.cast_nonneg _
  rw [Nat.cast_add, Nat.cast_mul, Nat.cast_ofNat] at h
  rw [Int.floor_eq_iff, Int.cast_natCast]
  constructor <;> linarith

theorem hi_apply (k : Fin 1024) : hi (F := Ideal) (ix1 k) = (((k.val / 32 : ℕ) : ℝ) : EReal) := by
  show Ideal.liftRound Int.floor (Ideal.div (iota1 (F := Ideal) (ix1 k)) (Ideal.ofBits .f32 0x42000000#32)) = _
  rw [iota1_apply, bits32, Ideal.div_coe (by norm_num)]
  show ((⌊_⌋ : ℝ) : EReal) = _
  rw [mul_one_div, floor32, Int.cast_natCast]

theorem remainder_apply (k : Fin 1024) :
    Host.remf (iota1 (F := Ideal)) (splat (constant S_ .f32 0x42000000#32)) (ix1 k) = (((k.val % 32 : ℕ) : ℝ) : EReal) := by
  show Ideal.remf (iota1 (F := Ideal) (ix1 k)) (Ideal.ofBits .f32 0x42000000#32) = _
  rw [iota1_apply, bits32, Ideal.remf_coe, if_neg (by norm_num), Ideal.truncInt, if_pos (by positivity), floor32]
  congr 1
  have := Nat.div_add_mod k.val 32
  have h : ((32 * (k.val / 32) + k.val % 32 : ℕ) : ℝ) = (k.val : ℝ) := by rw [this]
  rw [Nat.cast_add, Nat.cast_mul, Nat.cast_ofNat] at h
  rw [Int.cast_natCast]
  linarith

theorem modulo_apply (k : Fin 1024) :
    modulo (F := Ideal) iota1 (constant S_ .f32 0x42000000#32) (ix1 k) = (((k.val % 32 : ℕ) : ℝ) : EReal) := by
  have h0 : Ideal.ofBits .f32 0x00000000#32 = 0 := by simp
  have n1 : cmpf .olt (Host.remf (iota1 (F := Ideal)) (splat (constant S_ .f32 0x42000000#32))) (splat (constant S_ .f32 0x00000000#32)) (ix1 k) = 0#1 := by
    show BitVec.ofBool (decide (Host.remf (iota1 (F := Ideal)) (splat (constant S_ .f32 0x42000000#32)) (ix1 k) < Ideal.ofBits .f32 0x00000000#32)) = 0#1
    rw [remainder_apply, h0, decide_eq_false]
    · rfl
    · rw [not_lt]; exact_mod_cast Nat.zero_le _
  have n2 : broadcastInDim S1024 ![] bcast_S_S1024 (cmpf .olt (constant (F := Ideal) S_ .f32 0x42000000#32) (constant S_ .f32 0x00000000#32)) (ix1 k) = 0#1 := by
    show BitVec.ofBool (decide (Ideal.ofBits .f32 0x42000000#32 < Ideal.ofBits .f32 0x00000000#32)) = 0#1
    rw [bits32, h0, decide_eq_false]
    · rfl
    · rw [not_lt]; exact_mod_cast (by norm_num : (0 : ℝ) ≤ 32)
  refine Eq.trans ?_ (remainder_apply k)
  refine (select_apply _ _ _ _).trans ?_
  have : (andi (cmpi .ne (cmpf .olt (Host.remf (iota1 (F := Ideal)) (splat (constant S_ .f32 0x42000000#32))) (splat (constant S_ .f32 0x00000000#32)))
      (broadcastInDim S1024 ![] bcast_S_S1024 (cmpf .olt (constant (F := Ideal) S_ .f32 0x42000000#32) (constant S_ .f32 0x00000000#32))))
      (cmpf .une (Host.remf (iota1 (F := Ideal)) (splat (constant S_ .f32 0x42000000#32))) (splat (constant S_ .f32 0x00000000#32)))) (ix1 k) = 0#1 := by
    refine (congrArg₂ (fun u v => IntOp.andi (IntOp.cmpi .ne u v) _) n1 n2).trans ?_
    show (0#1 : BitVec 1) &&& _ = 0#1
    exact BitVec.zero_and
  rw [this]
  rfl

variable (e : FVec Ideal S64x1024 .f32)

theorem aug_code (d : Fin 64) (k : Fin 1024) : aug e (ix2 (d.castLE Cert.Spec.rows_le) k) = e (ix2 d k) :=
  concatenate_pair_apply_left _ _ _ concatenates_S64x1024_S8x1024_S72x1024_d0 _ rfl (ix2 d k) (fun b => match b with
    | ⟨0, _⟩ => rfl | ⟨1, _⟩ => rfl)

theorem aug_row (r : Fin 8) (r' : Fin 72) (hr : r'.val = 64 + r.val) (k : Fin 1024) :
    aug e (ix2 r' k) = put (F := Ideal) rows2 2#32 (modulo iota1 (constant S_ .f32 0x42000000#32)) (ix2 r k) :=
  concatenate_pair_apply_right _ _ _ concatenates_S64x1024_S8x1024_S72x1024_d0 _ rfl rfl (ix2 r k) (fun b hb => match b, hb with
    | ⟨0, _⟩, hb => absurd rfl hb | ⟨1, _⟩, _ => rfl) ((Nat.add_comm _ _).trans hr.symm)

theorem aug_one (k : Fin 1024) : aug e (ix2 64 k) = 1 := by
  rw [aug_row e 0 64 rfl, put_miss _ _ _ 2 rfl 0 (by decide)]
  unfold rows2
  rw [put_miss _ _ _ 1 rfl 0 (by decide), put_hit _ _ _ 0 rfl]
  exact bits1

theorem aug_hi (k : Fin 1024) : aug e (ix2 65 k) = (((k.val / 32 : ℕ) : ℝ) : EReal) := by
  rw [aug_row e 1 65 rfl, put_miss _ _ _ 2 rfl 1 (by decide)]
  unfold rows2
  rw [put_hit _ _ _ 1 rfl]
  exact hi_apply k

theorem aug_lo (k : Fin 1024) : aug e (ix2 66 k) = (((k.val % 32 : ℕ) : ℝ) : EReal) := by
  rw [aug_row e 2 66 rfl, put_hit _ _ _ 2 rfl]
  exact modulo_apply k

end Cert.KernelIdeal.Host

end
-- ==== Proof.KerValue.lean ====
/- The kernel's three results at the exact values: each token's nearest code, that code's number, and the squared error of
   all of them over their count. -/
module

public import proofs.«01_k».proof.Proof.KerEnd
public import proofs.«01_k».proof.Proof.KerPoint
public import proofs.«01_k».proof.Proof.KerRows
public import proofs.«01_k».proof.Proof.Errors

@[expose] public section

set_option maxRecDepth 65536

noncomputable section

namespace Cert.KernelIdeal.Img

open Idealize.ShloMosaic
open Idealize.ShloMosaic.ValueIdx Cert.KernelIdeal Cert.KernelIdeal.Gen Cert.Spec
open scoped BigOperators

section Block

variable (E : Fin 64 → Fin 1024 → ℝ) (Y : Fin 8 → Fin 64 → Fin 1024 → ℝ) (e : FVec Ideal S64x1024 .f32) (y : FVec Ideal S8x64x1024 .f32)
  (he : ∀ d k, e (ix2 d k) = ((E d k : ℝ) : EReal)) (hy : ∀ i d p, y (ix3 i d p) = ((Y i d p : ℝ) : EReal))
  (κ : Fin 8 → Fin 1024 → Fin 1024) (hκ : ∀ i p, Nearest (fun d => Y i d p) E (κ i p))

include he hy hκ in
/-- The squared error of eight images. -/
theorem total_apply : total y e (Host.aug e) (ix2 0 0)
    = ((∑ i, ∑ d, ∑ p, (E d (κ i p) - Y i d p) * (E d (κ i p) - Y i d p) : ℝ) : EReal) := by
  have h0 : (k0_pay9 (F := Ideal)) (ix2 0 0) = ((0 : ℝ) : EReal) := by
    show Ideal.ofBits .f32 0x00000000#32 = _
    simp
  have st : ∀ (i : Fin 8) (h) (s : FVec Ideal S1x1 .f32) (σ : ℝ), s (ix2 0 0) = ((σ : ℝ) : EReal) →
      step e (Host.aug e) s (im y i.val h) (ix2 0 0)
        = ((σ + ∑ d, ∑ p, (E d (κ i p) - Y i d p) * (E d (κ i p) - Y i d p) : ℝ) : EReal) := fun i h s σ hs => by
    rw [im_eq_img]
    exact step_apply E (Y i) e (img y i) he (fun d p => hy i d p) (Host.aug e) (κ i) (hκ i)
      (fun d k => (Host.aug_code e d k).trans (he d k)) (fun k => Host.aug_one e k) s σ hs
  rw [Fin.sum_univ_eight]
  unfold total
  refine (st 7 _ _ _ (st 6 _ _ _ (st 5 _ _ _ (st 4 _ _ _ (st 3 _ _ _ (st 2 _ _ _ (st 1 _ _ _ (st 0 _ _ _ h0)))))))).trans ?_
  rw [zero_add]

end Block

variable (X : Fin 16 → Fin 64 → Fin 1024 → ℝ) (E : Fin 64 → Fin 1024 → ℝ) (κ : Fin 16 → Fin 1024 → Fin 1024)
  (x : FVec Ideal S16x64x32x32 .f32) (e : FVec Ideal S64x1024 .f32)
  (hx : ∀ b d h w, x (ix4 b d h w) = ((X b d (pix h w) : ℝ) : EReal)) (he : ∀ d k, e (ix2 d k) = ((E d k : ℝ) : EReal))
  (hκ : ∀ b p, Nearest (fun d => X b d p) E (κ b p))

include hx in
theorem images_apply (b : Fin 16) (d : Fin 64) (p : Fin 1024) : Host.images x (ix3 b d p) = ((X b d p : ℝ) : EReal) := by
  unfold Host.images
  refine (shapeCast_apply (s := S16x64x32x32) (t := S16x64x1024) x _ (ix3 b d p) (ix4 b d (rowOf p) (colOf p)) ?_).trans ?_
  · rw [Shape.rowMajor_val_four, Shape.rowMajor_val_three]
    show ((b.val * 64 + d.val) * 32 + p.val / 32) * 32 + p.val % 32 = (b.val * 64 + d.val) * 1024 + p.val
    omega
  · rw [hx, pix_of]

include hx he hκ

/-- The first result: every channel is the nearest code's. -/
theorem outQ_apply (b : Fin 16) (d : Fin 64) (h w : Fin 32) : outQ x e (ix4 b d h w) = ((E d (κ b (pix h w)) : ℝ) : EReal) := by
  unfold outQ
  refine (shapeCast_apply (s := S16x64x1024) (t := S16x64x32x32) _ _ (ix4 b d h w) (ix3 b d (pix h w)) ?_).trans ?_
  · rw [Shape.rowMajor_val_four, Shape.rowMajor_val_three]
    show (b.val * 64 + d.val) * 1024 + (h.val * 32 + w.val) = ((b.val * 64 + d.val) * 32 + h.val) * 32 + w.val
    omega
  · exact quant_apply E (X b) e (pick (Host.images x) b) he (fun d p => images_apply X x hx b d p) (Host.aug e) (κ b) (hκ b)
      (fun d k => (Host.aug_code e d k).trans (he d k)) (fun k => Host.aug_one e k) d (pix h w)

/-- The third result: the nearest code's number. -/
theorem outI_apply (b : Fin 16) (h w : Fin 32) : outI x e (ix3 b h w) = BitVec.ofNat 32 (κ b (pix h w)).val := by
  unfold outI
  refine (shapeCast_apply (s := S16x1x1024) (t := S16x32x32) _ _ (ix3 b h w) (ix3 b 0 (pix h w)) ?_).trans ?_
  · rw [Shape.rowMajor_val_three, Shape.rowMajor_val_three]
    show (b.val * 1 + 0) * 1024 + (h.val * 32 + w.val) = (b.val * 32 + h.val) * 32 + w.val
    omega
  · exact index_apply E (X b) e (pick (Host.images x) b) he (fun d p => images_apply X x hx b d p) (Host.aug e) (κ b) (hκ b)
      (fun k => Host.aug_one e k) (fun k => Host.aug_hi e k) (fun k => Host.aug_lo e k) (pix h w)

theorem half_apply (t : Fin 2) : total (half (Host.images x) t) e (Host.aug e) (ix2 0 0)
    = ((∑ i : Fin 8, ∑ d, ∑ p, sqErr X E κ (⟨t.val * 8 + i.val, by have := t.isLt; have := i.isLt; omega⟩) d p : ℝ) : EReal) :=
  total_apply E (fun i => X ⟨t.val * 8 + i.val, by have := t.isLt; have := i.isLt; omega⟩) e (half (Host.images x) t) he
    (fun i d p => images_apply X x hx _ d p) (fun i => κ ⟨t.val * 8 + i.val, by have := t.isLt; have := i.isLt; omega⟩)
    (fun i p => hκ _ p)

/-- The second result: the squared error of all tokens over the count of their channels. -/
theorem outD_apply (j : S_.Idx) : outD x e j = Ideal.div ((errors X E κ : ℝ) : EReal) (Ideal.ofBits .f32 0x49800000#32) := by
  unfold outD
  refine (shapeCast_apply (s := S1x1) (t := S_) _ _ j (ix2 0 0) ?_).trans ?_
  · have h1 : (S_.rowMajor j).val < 1 := (S_.rowMajor j).isLt
    rw [Shape.rowMajor_val_two]
    show 0 * 1 + 0 = _
    omega
  have same : ∀ s : FVec Ideal S1x1 .f32, shapeCast S1x1 s shapeCasts_S1x1_S1x1 (ix2 0 0) = s (ix2 0 0) := fun s =>
    shapeCast_apply s _ _ _ rfl
  have hacc : ∀ s p : FVec Ideal S1x1 .f32, acc s p (ix2 0 0) = (s (ix2 0 0) + p (ix2 0 0) : EReal) := fun s p =>
    congrArg (· + p (ix2 0 0)) (same s)
  have h2 : (k0_pay2 (F := Ideal)) (ix2 0 0) = (0 : EReal) := by
    show Ideal.ofBits .f32 0x00000000#32 = _
    simp
  unfold allD
  refine (congrArg (fun z => Ideal.div z (Ideal.ofBits .f32 0x49800000#32)) (same _)).trans ?_
  refine congrArg (fun z => Ideal.div z (Ideal.ofBits .f32 0x49800000#32)) ?_
  rw [hacc, hacc, h2, zero_add, half_apply X E κ x e hx he hκ 0, half_apply X E κ x e hx he hκ 1, ← EReal.coe_add]
  refine congrArg _ ?_
  unfold errors
  exact sum_halves (fun b => ∑ d, ∑ p, sqErr X E κ b d p)

end Cert.KernelIdeal.Img

end
-- ==== Proof.Agree.lean ====
/- The two programs' results are the same arrays wherever the precondition holds. -/
module

public import proofs.«01_k».proof.Proof.Pre
public import proofs.«01_k».proof.Proof.KerValue
public import proofs.«01_k».proof.Proof.RefValue

@[expose] public section

set_option maxRecDepth 65536

noncomputable section

namespace Cert.Agree

open Idealize.ShloMosaic
open Cert.ReferenceIdeal Cert.Pre_finite_nearest.Gen

theorem results (x : FVec Ideal S16x64x32x32 .f32) (e : FVec Ideal S64x1024 .f32)
    (h0 : (Cert.Pre_finite_nearest.fn (F := Ideal) x e).1 = fun _ => 1#1)
    (h1 : (Cert.Pre_finite_nearest.fn (F := Ideal) x e).2.1 = fun _ => 1#1)
    (h2 : (Cert.Pre_finite_nearest.fn (F := Ideal) x e).2.2 = fun _ => 1#1) :
    Value.outQ x e = KernelIdeal.Img.outQ x e ∧ Value.outD x e = KernelIdeal.Img.outD x e ∧ Value.outI x e = KernelIdeal.Img.outI x e := by
  obtain ⟨X, E, κ, hx, he, hκ⟩ := Cert.Pre_finite_nearest.reals x e h0 h1 h2
  refine ⟨funext fun j => ?_, funext fun j => ?_, funext fun j => ?_⟩
  · rw [ValueIdx.eq_ix4 j]
    exact (Value.outQ_apply X E κ x e hx he hκ _ _ _ _).trans (KernelIdeal.Img.outQ_apply X E κ x e hx he hκ _ _ _ _).symm
  · exact (Value.outD_apply X E κ x e hx he hκ j).trans (KernelIdeal.Img.outD_apply X E κ x e hx he hκ j).symm
  · rw [ValueIdx.eq_ix3 j]
    exact (Value.outI_apply X E κ x e hx he hκ _ _ _).trans (KernelIdeal.Img.outI_apply X E κ x e hx he hκ _ _ _).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_nearest
public import proofs.«01_k».proof.Proof.Agree
public import Idealize.ShloMosaic.Adequacy
public import Idealize.ShloMosaic.Init

@[expose] public section

noncomputable section

namespace Cert.Proof

open Idealize.ShloMosaic Idealize.SL.Sem

/-- The reference runs, leaves its arguments unchanged and every counter at zero: it has no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, Idealize.ShloMosaic.sem_eq_zero_of_no_sems (by decide) r.2⟩)
    (Cert.ReferenceIdeal.Value.run_main m ρ)

/-- From equal arguments, with every number finite and one nearest code per token, both programs end with the same results. -/
theorem agree : Cert.algebraic_KernelIdeal_ReferenceIdeal_pre_finite_nearest := by
  intro m g m' g' hpre hm
  refine ⟨_, _, _, Cert.KernelIdeal.Img.run_results m g, ?_⟩
  refine (θ_run _ _ _).mono (fun r h c => ?_) (Cert.ReferenceIdeal.Value.run_main m' g')
  obtain ⟨⟨h0, h1, h2⟩, h3, h4⟩ := h c
  obtain ⟨a0, a1⟩ := hm c
  obtain ⟨p0, p1, p2⟩ := hpre c
  obtain ⟨e0, e1, e2⟩ := Cert.Agree.results _ _ p0 p1 p2
  exact ⟨h0.trans ((congrArg₂ Cert.ReferenceIdeal.Value.outQ a0 a1).trans e0),
    h1.trans ((congrArg₂ Cert.ReferenceIdeal.Value.outD a0 a1).trans e1),
    h2.trans ((congrArg₂ Cert.ReferenceIdeal.Value.outI a0 a1).trans e2), h3, h4⟩

theorem claim : Cert.Claim := ⟨Cert.Kernel.Gen.facts, Cert.KernelIdeal.Gen.facts, Cert.ReferenceIdeal.Gen.facts,
  Cert.Pre_finite_nearest.Gen.facts,
  fun m ρ _ => Cert.Kernel.Gen.frame m ρ, fun m ρ _ => Cert.KernelIdeal.Gen.frame m ρ,
  fun m ρ _ => Cert.KernelIdeal.Gen.frame m ρ, fun m ρ _ => frame_reference m ρ,
  fun m ρ _ => frame_reference m ρ, trivial, agree⟩

end Cert.Proof

end
